-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S1024x8192 : Shape := ⟨2, ![1024, 8192]⟩
abbrev S512x8192 : Shape := ⟨2, ![512, 8192]⟩
abbrev S3x128x8192 : Shape := ⟨3, ![3, 128, 8192]⟩
abbrev S1024x512 : Shape := ⟨2, ![1024, 512]⟩
abbrev S4x192x512 : Shape := ⟨3, ![4, 192, 512]⟩
abbrev S4x4x192x512 : Shape := ⟨4, ![4, 4, 192, 512]⟩
abbrev S4x7x64x512 : Shape := ⟨4, ![4, 7, 64, 512]⟩
abbrev S3 : Shape := ⟨1, ![3]⟩
abbrev S4x4 : Shape := ⟨2, ![4, 4]⟩
abbrev S4x2 : Shape := ⟨2, ![4, 2]⟩
abbrev S4x7 : Shape := ⟨2, ![4, 7]⟩
abbrev S1 : Shape := ⟨1, ![1]⟩
abbrev S_ : Shape := ⟨0, ![]⟩
abbrev S1x128x8192 : Shape := ⟨3, ![1, 128, 8192]⟩
abbrev S128x8192 : Shape := ⟨2, ![128, 8192]⟩
abbrev S256x8192 : Shape := ⟨2, ![256, 8192]⟩
abbrev S256x512 : Shape := ⟨2, ![256, 512]⟩
abbrev S1x1 : Shape := ⟨2, ![1, 1]⟩
abbrev S192x512 : Shape := ⟨2, ![192, 512]⟩
abbrev S1x192x512 : Shape := ⟨3, ![1, 192, 512]⟩
abbrev S1x1x192x512 : Shape := ⟨4, ![1, 1, 192, 512]⟩
abbrev S1x1x64x512 : Shape := ⟨4, ![1, 1, 64, 512]⟩
abbrev S64x512 : Shape := ⟨2, ![64, 512]⟩
abbrev S1x1x128x512 : Shape := ⟨4, ![1, 1, 128, 512]⟩
abbrev S128x512 : Shape := ⟨2, ![128, 512]⟩

abbrev nBuf : Space → Nat
  | .hbm => 3
  | .vmem => 11
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .bf16⟩
  | .local _ .vmem, ⟨0, _⟩ => ⟨S2048x2048, .bf16⟩
  | .local _ .vmem, ⟨1, _⟩ => ⟨S1024x8192, .bf16⟩
  | .local _ .vmem, ⟨2, _⟩ => ⟨S512x8192, .bf16⟩
  | .local _ .vmem, ⟨3, _⟩ => ⟨S3x128x8192, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S4x192x512, .bf16⟩
  | .local _ .vmem, ⟨8, _⟩ => ⟨S4x4x192x512, .bf16⟩
  | .local _ .vmem, ⟨9, _⟩ => ⟨S4x4x192x512, .bf16⟩
  | .local _ .vmem, ⟨10, _⟩ => ⟨S4x7x64x512, .bf16⟩
  | _, _ => ⟨S2048x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c1_i32 : BitVec 32) (c4_i32_1 : BitVec 32) (c512_i32 : BitVec 32) (c0_i32_20 : BitVec 32) : Fin 2 → Nat :=
  let v6 : BitVec 32 := Dev.word d0
  let v7 : BitVec 32 := Scalar.divsi v6 c1_i32
  let v8 : BitVec 32 := Scalar.remsi v7 c4_i32_1
  let v31 : BitVec 32 := Scalar.muli v8 c512_i32
  let v32 : BitVec 32 := Scalar.addi v31 c0_i32_20
  let c0_i32_40 : BitVec 32 := 0#32
  ![v32.toNat, 0]
def k0_off1_at (r : Fin 12) : BitVec 32 × BitVec 32 × BitVec 32 × BitVec 32 :=
  if r.val < 6 then
    if r.val < 3 then
      if r.val < 1 then
        (1#32, 4#32, 512#32, 0#32)
      else
        if r.val < 2 then
          (1#32, 4#32, 512#32, 128#32)
        else
          (1#32, 4#32, 512#32, 256#32)
    else
      if r.val < 4 then
        (1#32, 4#32, 512#32, 384#32)
      else
        if r.val < 5 then
          (4#32, 2#32, 1024#32, 0#32)
        else
          (4#32, 2#32, 1024#32, 128#32)
  else
    if r.val < 9 then
      if r.val < 7 then
        (4#32, 2#32, 1024#32, 256#32)
      else
        if r.val < 8 then
          (4#32, 2#32, 1024#32, 384#32)
        else
          (4#32, 2#32, 1024#32, 512#32)
    else
      if r.val < 10 then
        (4#32, 2#32, 1024#32, 640#32)
      else
        if r.val < 11 then
          (4#32, 2#32, 1024#32, 768#32)
        else
          (4#32, 2#32, 1024#32, 896#32)
def k0_dev1 (d0 : Dev nD) : Nat :=
  let c0_i32_143 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_142 : BitVec 32 := 8#32
  let v173 : BitVec 32 := Scalar.muli v27 c8_i32_142
  let v174 : BitVec 32 := Scalar.addi c0_i32_143 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v175 : BitVec 32 := Scalar.muli v5 c4_i32_144
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v177 : BitVec 32 := Scalar.muli v8 c1_i32_145
  let v178 : BitVec 32 := Scalar.addi v176 v177
  v178.toNat
def k0_dev2 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v179 : BitVec 32 := Scalar.muli v2 c8_i32_147
  let v180 : BitVec 32 := Scalar.addi c0_i32_148 v179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_149 : BitVec 32 := 4#32
  let v181 : BitVec 32 := Scalar.muli v15 c4_i32_149
  let v182 : BitVec 32 := Scalar.addi v180 v181
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_150 : BitVec 32 := 1#32
  let v183 : BitVec 32 := Scalar.muli v18 c1_i32_150
  let v184 : BitVec 32 := Scalar.addi v182 v183
  v184.toNat
def k0_dev3 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v185 : BitVec 32 := Scalar.muli v2 c8_i32_152
  let v186 : BitVec 32 := Scalar.addi c0_i32_153 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_154 : BitVec 32 := 4#32
  let v187 : BitVec 32 := Scalar.muli v23 c4_i32_154
  let v188 : BitVec 32 := Scalar.addi v186 v187
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_155 : BitVec 32 := 1#32
  let v189 : BitVec 32 := Scalar.muli v26 c1_i32_155
  let v190 : BitVec 32 := Scalar.addi v188 v189
  v190.toNat
def k0_dev4 (d0 : Dev nD) : Nat :=
  let c0_i32_165 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_164 : BitVec 32 := 8#32
  let v196 : BitVec 32 := Scalar.muli v27 c8_i32_164
  let v197 : BitVec 32 := Scalar.addi c0_i32_165 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v198 : BitVec 32 := Scalar.muli v5 c4_i32_166
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v200 : BitVec 32 := Scalar.muli v8 c1_i32_167
  let v201 : BitVec 32 := Scalar.addi v199 v200
  v201.toNat
def k0_dev5 (d0 : Dev nD) : Nat :=
  let c0_i32_218 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_217 : BitVec 32 := 8#32
  let v251 : BitVec 32 := Scalar.muli v27 c8_i32_217
  let v252 : BitVec 32 := Scalar.addi c0_i32_218 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_219 : BitVec 32 := 4#32
  let v253 : BitVec 32 := Scalar.muli v5 c4_i32_219
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v255 : BitVec 32 := Scalar.muli v8 c1_i32_220
  let v256 : BitVec 32 := Scalar.addi v254 v255
  v256.toNat
def k0_off2 (d0 : Dev nD) (c0_i32_242 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_241 : BitVec 32 := 1024#32
  let v278 : BitVec 32 := Scalar.muli v5 c1024_i32_241
  let v279 : BitVec 32 := Scalar.addi v278 c0_i32_242
  let v281 : Index := Scalar.indexCast v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_243 : BitVec 32 := 512#32
  let v280 : BitVec 32 := Scalar.muli v8 c512_i32_243
  let v282 : Index := Scalar.indexCast v280
  ![v281.toNat, v282.toNat]
def k0_off3 (d0 : Dev nD) (c0_i32_244 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32 : BitVec 32 := 64#32
  let v28 : BitVec 32 := Scalar.muli v2 c64_i32
  let v284 : BitVec 32 := Scalar.addi c0_i32_244 v28
  let v285 : Index := Scalar.indexCast v284
  let c0_245 : Index := 0#32
  ![v285.toNat, 0]
def k0_dev6 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v295 : BitVec 32 := Scalar.muli v2 c8_i32_257
  let v296 : BitVec 32 := Scalar.addi c0_i32_258 v295
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_259 : BitVec 32 := 4#32
  let v297 : BitVec 32 := Scalar.muli v15 c4_i32_259
  let v298 : BitVec 32 := Scalar.addi v296 v297
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_260 : BitVec 32 := 1#32
  let v299 : BitVec 32 := Scalar.muli v18 c1_i32_260
  let v300 : BitVec 32 := Scalar.addi v298 v299
  v300.toNat
def k0_dev7 (d0 : Dev nD) : Nat :=
  let c0_i32_273 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_272 : BitVec 32 := 8#32
  let v309 : BitVec 32 := Scalar.muli v2 c8_i32_272
  let v310 : BitVec 32 := Scalar.addi c0_i32_273 v309
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_274 : BitVec 32 := 4#32
  let v311 : BitVec 32 := Scalar.muli v23 c4_i32_274
  let v312 : BitVec 32 := Scalar.addi v310 v311
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_275 : BitVec 32 := 1#32
  let v313 : BitVec 32 := Scalar.muli v26 c1_i32_275
  let v314 : BitVec 32 := Scalar.addi v312 v313
  v314.toNat
def k0_dev8 (d0 : Dev nD) : Nat :=
  let c0_i32_319 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_318 : BitVec 32 := 8#32
  let v361 : BitVec 32 := Scalar.muli v27 c8_i32_318
  let v362 : BitVec 32 := Scalar.addi c0_i32_319 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_320 : BitVec 32 := 4#32
  let v363 : BitVec 32 := Scalar.muli v5 c4_i32_320
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v365 : BitVec 32 := Scalar.muli v8 c1_i32_321
  let v366 : BitVec 32 := Scalar.addi v364 v365
  v366.toNat
def k0_dev9 (d0 : Dev nD) : Nat :=
  let c0_i32_360 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_359 : BitVec 32 := 8#32
  let v406 : BitVec 32 := Scalar.muli v27 c8_i32_359
  let v407 : BitVec 32 := Scalar.addi c0_i32_360 v406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_361 : BitVec 32 := 4#32
  let v408 : BitVec 32 := Scalar.muli v5 c4_i32_361
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v410 : BitVec 32 := Scalar.muli v8 c1_i32_362
  let v411 : BitVec 32 := Scalar.addi v409 v410
  v411.toNat
def k0_dev10 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v450 : BitVec 32 := Scalar.muli v2 c8_i32_399
  let v451 : BitVec 32 := Scalar.addi c0_i32_400 v450
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_401 : BitVec 32 := 4#32
  let v452 : BitVec 32 := Scalar.muli v15 c4_i32_401
  let v453 : BitVec 32 := Scalar.addi v451 v452
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_402 : BitVec 32 := 1#32
  let v454 : BitVec 32 := Scalar.muli v18 c1_i32_402
  let v455 : BitVec 32 := Scalar.addi v453 v454
  v455.toNat
def k0_dev11 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v464 : BitVec 32 := Scalar.muli v2 c8_i32_414
  let v465 : BitVec 32 := Scalar.addi c0_i32_415 v464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_416 : BitVec 32 := 4#32
  let v466 : BitVec 32 := Scalar.muli v23 c4_i32_416
  let v467 : BitVec 32 := Scalar.addi v465 v466
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_417 : BitVec 32 := 1#32
  let v468 : BitVec 32 := Scalar.muli v26 c1_i32_417
  let v469 : BitVec 32 := Scalar.addi v467 v468
  v469.toNat
def k0_dev12 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_460 : BitVec 32 := 8#32
  let v502 : BitVec 32 := Scalar.muli v2 c8_i32_460
  let v503 : BitVec 32 := Scalar.addi c0_i32_461 v502
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_462 : BitVec 32 := 4#32
  let v504 : BitVec 32 := Scalar.muli v15 c4_i32_462
  let v505 : BitVec 32 := Scalar.addi v503 v504
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_463 : BitVec 32 := 1#32
  let v506 : BitVec 32 := Scalar.muli v18 c1_i32_463
  let v507 : BitVec 32 := Scalar.addi v505 v506
  v507.toNat
def k0_dev13 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v516 : BitVec 32 := Scalar.muli v2 c8_i32_476
  let v517 : BitVec 32 := Scalar.addi c0_i32_477 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_478 : BitVec 32 := 4#32
  let v518 : BitVec 32 := Scalar.muli v23 c4_i32_478
  let v519 : BitVec 32 := Scalar.addi v517 v518
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_479 : BitVec 32 := 1#32
  let v520 : BitVec 32 := Scalar.muli v26 c1_i32_479
  let v521 : BitVec 32 := Scalar.addi v519 v520
  v521.toNat
def k0_off4 (d0 : Dev nD) (c0_i32_485 : BitVec 32) (c0_i32_501 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_484 : BitVec 32 := 8#32
  let v530 : BitVec 32 := Scalar.addi v11 c8_i32_484
  let v531 : BitVec 32 := Scalar.subi v530 c0_i32_485
  let c1_i32_486 : BitVec 32 := 1#32
  let v532 : BitVec 32 := Scalar.subi v531 c1_i32_486
  let c8_i32_487 : BitVec 32 := 8#32
  let v533 : BitVec 32 := Scalar.remsi v532 c8_i32_487
  let c4_i32_495 : BitVec 32 := 4#32
  let v539 : BitVec 1 := Scalar.cmpi .slt v533 c4_i32_495
  let c0_i32_496 : BitVec 32 := 0#32
  let c1_i32_497 : BitVec 32 := 1#32
  let v540 : BitVec 32 := Scalar.select v539 c0_i32_496 c1_i32_497
  let c1024_i32_500 : BitVec 32 := 1024#32
  let v544 : BitVec 32 := Scalar.muli v540 c1024_i32_500
  let v545 : BitVec 32 := Scalar.addi v544 c0_i32_501
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32 : BitVec 32 := 64#32
  let v28 : BitVec 32 := Scalar.muli v2 c64_i32
  let v546 : BitVec 32 := Scalar.addi v545 v28
  let v548 : Index := Scalar.indexCast v546
  let c4_i32_498 : BitVec 32 := 4#32
  let v541 : BitVec 1 := Scalar.cmpi .slt v533 c4_i32_498
  let c7_i32_499 : BitVec 32 := 7#32
  let v542 : BitVec 32 := Scalar.subi c7_i32_499 v533
  let v543 : BitVec 32 := Scalar.select v541 v533 v542
  let c512_i32_502 : BitVec 32 := 512#32
  let v547 : BitVec 32 := Scalar.muli v543 c512_i32_502
  let v549 : Index := Scalar.indexCast v547
  ![v548.toNat, v549.toNat]
def k0_off5 (d0 : Dev nD) (c0_i32_488 : BitVec 32) (c0_i32_513 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v534 : BitVec 32 := Scalar.addi v11 c0_i32_488
  let c1_i32_489 : BitVec 32 := 1#32
  let v535 : BitVec 32 := Scalar.addi v534 c1_i32_489
  let c8_i32_490 : BitVec 32 := 8#32
  let v536 : BitVec 32 := Scalar.remsi v535 c8_i32_490
  let c4_i32_507 : BitVec 32 := 4#32
  let v553 : BitVec 1 := Scalar.cmpi .slt v536 c4_i32_507
  let c0_i32_508 : BitVec 32 := 0#32
  let c1_i32_509 : BitVec 32 := 1#32
  let v554 : BitVec 32 := Scalar.select v553 c0_i32_508 c1_i32_509
  let c1024_i32_512 : BitVec 32 := 1024#32
  let v558 : BitVec 32 := Scalar.muli v554 c1024_i32_512
  let v559 : BitVec 32 := Scalar.addi v558 c0_i32_513
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32 : BitVec 32 := 64#32
  let v28 : BitVec 32 := Scalar.muli v2 c64_i32
  let v560 : BitVec 32 := Scalar.addi v559 v28
  let v562 : Index := Scalar.indexCast v560
  let c4_i32_510 : BitVec 32 := 4#32
  let v555 : BitVec 1 := Scalar.cmpi .slt v536 c4_i32_510
  let c7_i32_511 : BitVec 32 := 7#32
  let v556 : BitVec 32 := Scalar.subi c7_i32_511 v536
  let v557 : BitVec 32 := Scalar.select v555 v536 v556
  let c512_i32_514 : BitVec 32 := 512#32
  let v561 : BitVec 32 := Scalar.muli v557 c512_i32_514
  let v563 : Index := Scalar.indexCast v561
  ![v562.toNat, v563.toNat]
def k0_off6 (d0 : Dev nD) : Fin 4 → Nat :=
  let c0_i32_515 : BitVec 32 := 0#32
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_529 : BitVec 32 := 0#32
  ![0, 0, v30.toNat, 0]
def k0_dev14 (d0 : Dev nD) : Nat :=
  let c0_i32_524 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_523 : BitVec 32 := 8#32
  let v565 : BitVec 32 := Scalar.muli v27 c8_i32_523
  let v566 : BitVec 32 := Scalar.addi c0_i32_524 v565
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_525 : BitVec 32 := 4#32
  let v567 : BitVec 32 := Scalar.muli v5 c4_i32_525
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v569 : BitVec 32 := Scalar.muli v8 c1_i32_526
  let v570 : BitVec 32 := Scalar.addi v568 v569
  v570.toNat
def k0_dev15 (d0 : Dev nD) : Nat :=
  let c0_i32_539 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_538 : BitVec 32 := 8#32
  let v579 : BitVec 32 := Scalar.muli v27 c8_i32_538
  let v580 : BitVec 32 := Scalar.addi c0_i32_539 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_540 : BitVec 32 := 4#32
  let v581 : BitVec 32 := Scalar.muli v5 c4_i32_540
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_541 : BitVec 32 := 1#32
  let v583 : BitVec 32 := Scalar.muli v8 c1_i32_541
  let v584 : BitVec 32 := Scalar.addi v582 v583
  v584.toNat
def k0_dev16 (d0 : Dev nD) : Nat :=
  let c0_i32_578 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_577 : BitVec 32 := 8#32
  let v625 : BitVec 32 := Scalar.muli v2 c8_i32_577
  let v626 : BitVec 32 := Scalar.addi c0_i32_578 v625
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_579 : BitVec 32 := 4#32
  let v627 : BitVec 32 := Scalar.muli v15 c4_i32_579
  let v628 : BitVec 32 := Scalar.addi v626 v627
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_580 : BitVec 32 := 1#32
  let v629 : BitVec 32 := Scalar.muli v18 c1_i32_580
  let v630 : BitVec 32 := Scalar.addi v628 v629
  v630.toNat
def k0_dev17 (d0 : Dev nD) : Nat :=
  let c0_i32_593 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_592 : BitVec 32 := 8#32
  let v639 : BitVec 32 := Scalar.muli v2 c8_i32_592
  let v640 : BitVec 32 := Scalar.addi c0_i32_593 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_594 : BitVec 32 := 4#32
  let v641 : BitVec 32 := Scalar.muli v23 c4_i32_594
  let v642 : BitVec 32 := Scalar.addi v640 v641
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_595 : BitVec 32 := 1#32
  let v643 : BitVec 32 := Scalar.muli v26 c1_i32_595
  let v644 : BitVec 32 := Scalar.addi v642 v643
  v644.toNat
def k0_dev18 (d0 : Dev nD) : Nat :=
  let c0_i32_639 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_638 : BitVec 32 := 8#32
  let v677 : BitVec 32 := Scalar.muli v2 c8_i32_638
  let v678 : BitVec 32 := Scalar.addi c0_i32_639 v677
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_640 : BitVec 32 := 4#32
  let v679 : BitVec 32 := Scalar.muli v15 c4_i32_640
  let v680 : BitVec 32 := Scalar.addi v678 v679
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_641 : BitVec 32 := 1#32
  let v681 : BitVec 32 := Scalar.muli v18 c1_i32_641
  let v682 : BitVec 32 := Scalar.addi v680 v681
  v682.toNat
def k0_dev19 (d0 : Dev nD) : Nat :=
  let c0_i32_655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_654 : BitVec 32 := 8#32
  let v691 : BitVec 32 := Scalar.muli v2 c8_i32_654
  let v692 : BitVec 32 := Scalar.addi c0_i32_655 v691
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_656 : BitVec 32 := 4#32
  let v693 : BitVec 32 := Scalar.muli v23 c4_i32_656
  let v694 : BitVec 32 := Scalar.addi v692 v693
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_657 : BitVec 32 := 1#32
  let v695 : BitVec 32 := Scalar.muli v26 c1_i32_657
  let v696 : BitVec 32 := Scalar.addi v694 v695
  v696.toNat
def k0_off7 (d0 : Dev nD) : Fin 4 → Nat :=
  let c1_i32_693 : BitVec 32 := 1#32
  let c0_i32_694 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_707 : BitVec 32 := 0#32
  ![1, 0, v30.toNat, 0]
def k0_dev20 (d0 : Dev nD) : Nat :=
  let c0_i32_702 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_701 : BitVec 32 := 8#32
  let v740 : BitVec 32 := Scalar.muli v27 c8_i32_701
  let v741 : BitVec 32 := Scalar.addi c0_i32_702 v740
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_703 : BitVec 32 := 4#32
  let v742 : BitVec 32 := Scalar.muli v5 c4_i32_703
  let v743 : BitVec 32 := Scalar.addi v741 v742
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v744 : BitVec 32 := Scalar.muli v8 c1_i32_704
  let v745 : BitVec 32 := Scalar.addi v743 v744
  v745.toNat
def k0_dev21 (d0 : Dev nD) : Nat :=
  let c0_i32_717 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_716 : BitVec 32 := 8#32
  let v754 : BitVec 32 := Scalar.muli v27 c8_i32_716
  let v755 : BitVec 32 := Scalar.addi c0_i32_717 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v756 : BitVec 32 := Scalar.muli v5 c4_i32_718
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v758 : BitVec 32 := Scalar.muli v8 c1_i32_719
  let v759 : BitVec 32 := Scalar.addi v757 v758
  v759.toNat
def k0_dev22 (d0 : Dev nD) : Nat :=
  let c0_i32_764 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_763 : BitVec 32 := 8#32
  let v792 : BitVec 32 := Scalar.muli v2 c8_i32_763
  let v793 : BitVec 32 := Scalar.addi c0_i32_764 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_765 : BitVec 32 := 4#32
  let v794 : BitVec 32 := Scalar.muli v15 c4_i32_765
  let v795 : BitVec 32 := Scalar.addi v793 v794
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_766 : BitVec 32 := 1#32
  let v796 : BitVec 32 := Scalar.muli v18 c1_i32_766
  let v797 : BitVec 32 := Scalar.addi v795 v796
  v797.toNat
def k0_dev23 (d0 : Dev nD) : Nat :=
  let c0_i32_780 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_779 : BitVec 32 := 8#32
  let v806 : BitVec 32 := Scalar.muli v2 c8_i32_779
  let v807 : BitVec 32 := Scalar.addi c0_i32_780 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_781 : BitVec 32 := 4#32
  let v808 : BitVec 32 := Scalar.muli v23 c4_i32_781
  let v809 : BitVec 32 := Scalar.addi v807 v808
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_782 : BitVec 32 := 1#32
  let v810 : BitVec 32 := Scalar.muli v26 c1_i32_782
  let v811 : BitVec 32 := Scalar.addi v809 v810
  v811.toNat
def k0_off8 (d0 : Dev nD) : Fin 4 → Nat :=
  let c0_i32_818 : BitVec 32 := 0#32
  let c1_i32_819 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_832 : BitVec 32 := 0#32
  ![0, 1, v30.toNat, 0]
def k0_dev24 (d0 : Dev nD) : Nat :=
  let c0_i32_827 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_826 : BitVec 32 := 8#32
  let v855 : BitVec 32 := Scalar.muli v27 c8_i32_826
  let v856 : BitVec 32 := Scalar.addi c0_i32_827 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_828 : BitVec 32 := 4#32
  let v857 : BitVec 32 := Scalar.muli v5 c4_i32_828
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v859 : BitVec 32 := Scalar.muli v8 c1_i32_829
  let v860 : BitVec 32 := Scalar.addi v858 v859
  v860.toNat
def k0_dev25 (d0 : Dev nD) : Nat :=
  let c0_i32_842 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_841 : BitVec 32 := 8#32
  let v869 : BitVec 32 := Scalar.muli v27 c8_i32_841
  let v870 : BitVec 32 := Scalar.addi c0_i32_842 v869
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_843 : BitVec 32 := 4#32
  let v871 : BitVec 32 := Scalar.muli v5 c4_i32_843
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_844 : BitVec 32 := 1#32
  let v873 : BitVec 32 := Scalar.muli v8 c1_i32_844
  let v874 : BitVec 32 := Scalar.addi v872 v873
  v874.toNat
def k0_dev26 (d0 : Dev nD) : Nat :=
  let c0_i32_880 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_879 : BitVec 32 := 8#32
  let v915 : BitVec 32 := Scalar.muli v2 c8_i32_879
  let v916 : BitVec 32 := Scalar.addi c0_i32_880 v915
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_881 : BitVec 32 := 4#32
  let v917 : BitVec 32 := Scalar.muli v15 c4_i32_881
  let v918 : BitVec 32 := Scalar.addi v916 v917
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_882 : BitVec 32 := 1#32
  let v919 : BitVec 32 := Scalar.muli v18 c1_i32_882
  let v920 : BitVec 32 := Scalar.addi v918 v919
  v920.toNat
def k0_dev27 (d0 : Dev nD) : Nat :=
  let c0_i32_895 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_894 : BitVec 32 := 8#32
  let v929 : BitVec 32 := Scalar.muli v2 c8_i32_894
  let v930 : BitVec 32 := Scalar.addi c0_i32_895 v929
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_896 : BitVec 32 := 4#32
  let v931 : BitVec 32 := Scalar.muli v23 c4_i32_896
  let v932 : BitVec 32 := Scalar.addi v930 v931
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_897 : BitVec 32 := 1#32
  let v933 : BitVec 32 := Scalar.muli v26 c1_i32_897
  let v934 : BitVec 32 := Scalar.addi v932 v933
  v934.toNat
def k0_dev28 (d0 : Dev nD) : Nat :=
  let c0_i32_941 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_940 : BitVec 32 := 8#32
  let v967 : BitVec 32 := Scalar.muli v2 c8_i32_940
  let v968 : BitVec 32 := Scalar.addi c0_i32_941 v967
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_942 : BitVec 32 := 4#32
  let v969 : BitVec 32 := Scalar.muli v15 c4_i32_942
  let v970 : BitVec 32 := Scalar.addi v968 v969
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_943 : BitVec 32 := 1#32
  let v971 : BitVec 32 := Scalar.muli v18 c1_i32_943
  let v972 : BitVec 32 := Scalar.addi v970 v971
  v972.toNat
def k0_dev29 (d0 : Dev nD) : Nat :=
  let c0_i32_957 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_956 : BitVec 32 := 8#32
  let v981 : BitVec 32 := Scalar.muli v2 c8_i32_956
  let v982 : BitVec 32 := Scalar.addi c0_i32_957 v981
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_958 : BitVec 32 := 4#32
  let v983 : BitVec 32 := Scalar.muli v23 c4_i32_958
  let v984 : BitVec 32 := Scalar.addi v982 v983
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_959 : BitVec 32 := 1#32
  let v985 : BitVec 32 := Scalar.muli v26 c1_i32_959
  let v986 : BitVec 32 := Scalar.addi v984 v985
  v986.toNat
def k0_off9 (d0 : Dev nD) : Fin 4 → Nat :=
  let c2_i32_995 : BitVec 32 := 2#32
  let c0_i32_996 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1009 : BitVec 32 := 0#32
  ![2, 0, v30.toNat, 0]
def k0_dev30 (d0 : Dev nD) : Nat :=
  let c0_i32_1004 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1003 : BitVec 32 := 8#32
  let v1030 : BitVec 32 := Scalar.muli v27 c8_i32_1003
  let v1031 : BitVec 32 := Scalar.addi c0_i32_1004 v1030
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1005 : BitVec 32 := 4#32
  let v1032 : BitVec 32 := Scalar.muli v5 c4_i32_1005
  let v1033 : BitVec 32 := Scalar.addi v1031 v1032
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1006 : BitVec 32 := 1#32
  let v1034 : BitVec 32 := Scalar.muli v8 c1_i32_1006
  let v1035 : BitVec 32 := Scalar.addi v1033 v1034
  v1035.toNat
def k0_dev31 (d0 : Dev nD) : Nat :=
  let c0_i32_1019 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1018 : BitVec 32 := 8#32
  let v1044 : BitVec 32 := Scalar.muli v27 c8_i32_1018
  let v1045 : BitVec 32 := Scalar.addi c0_i32_1019 v1044
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1020 : BitVec 32 := 4#32
  let v1046 : BitVec 32 := Scalar.muli v5 c4_i32_1020
  let v1047 : BitVec 32 := Scalar.addi v1045 v1046
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1021 : BitVec 32 := 1#32
  let v1048 : BitVec 32 := Scalar.muli v8 c1_i32_1021
  let v1049 : BitVec 32 := Scalar.addi v1047 v1048
  v1049.toNat
def k0_dev32 (d0 : Dev nD) : Nat :=
  let c0_i32_1066 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1065 : BitVec 32 := 8#32
  let v1082 : BitVec 32 := Scalar.muli v2 c8_i32_1065
  let v1083 : BitVec 32 := Scalar.addi c0_i32_1066 v1082
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1067 : BitVec 32 := 4#32
  let v1084 : BitVec 32 := Scalar.muli v15 c4_i32_1067
  let v1085 : BitVec 32 := Scalar.addi v1083 v1084
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1068 : BitVec 32 := 1#32
  let v1086 : BitVec 32 := Scalar.muli v18 c1_i32_1068
  let v1087 : BitVec 32 := Scalar.addi v1085 v1086
  v1087.toNat
def k0_dev33 (d0 : Dev nD) : Nat :=
  let c0_i32_1082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1081 : BitVec 32 := 8#32
  let v1096 : BitVec 32 := Scalar.muli v2 c8_i32_1081
  let v1097 : BitVec 32 := Scalar.addi c0_i32_1082 v1096
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1083 : BitVec 32 := 4#32
  let v1098 : BitVec 32 := Scalar.muli v23 c4_i32_1083
  let v1099 : BitVec 32 := Scalar.addi v1097 v1098
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1084 : BitVec 32 := 1#32
  let v1100 : BitVec 32 := Scalar.muli v26 c1_i32_1084
  let v1101 : BitVec 32 := Scalar.addi v1099 v1100
  v1101.toNat
def k0_off10 (d0 : Dev nD) : Fin 4 → Nat :=
  let c1_i32_1120 : BitVec 32 := 1#32
  let c1_i32_1121 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1134 : BitVec 32 := 0#32
  ![1, 1, v30.toNat, 0]
def k0_dev34 (d0 : Dev nD) : Nat :=
  let c0_i32_1129 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1128 : BitVec 32 := 8#32
  let v1145 : BitVec 32 := Scalar.muli v27 c8_i32_1128
  let v1146 : BitVec 32 := Scalar.addi c0_i32_1129 v1145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1130 : BitVec 32 := 4#32
  let v1147 : BitVec 32 := Scalar.muli v5 c4_i32_1130
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1131 : BitVec 32 := 1#32
  let v1149 : BitVec 32 := Scalar.muli v8 c1_i32_1131
  let v1150 : BitVec 32 := Scalar.addi v1148 v1149
  v1150.toNat
def k0_dev35 (d0 : Dev nD) : Nat :=
  let c0_i32_1144 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1143 : BitVec 32 := 8#32
  let v1159 : BitVec 32 := Scalar.muli v27 c8_i32_1143
  let v1160 : BitVec 32 := Scalar.addi c0_i32_1144 v1159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1145 : BitVec 32 := 4#32
  let v1161 : BitVec 32 := Scalar.muli v5 c4_i32_1145
  let v1162 : BitVec 32 := Scalar.addi v1160 v1161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1146 : BitVec 32 := 1#32
  let v1163 : BitVec 32 := Scalar.muli v8 c1_i32_1146
  let v1164 : BitVec 32 := Scalar.addi v1162 v1163
  v1164.toNat
def k0_off11 (d0 : Dev nD) : Fin 4 → Nat :=
  let c0_i32_1186 : BitVec 32 := 0#32
  let c2_i32_1187 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_1182 : BitVec 32 := 64#32
  let v1197 : BitVec 32 := Scalar.muli v2 c64_i32_1182
  let c0_i32_1200 : BitVec 32 := 0#32
  ![0, 2, v1197.toNat, 0]
def k0_dev36 (d0 : Dev nD) : Nat :=
  let c0_i32_1195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1194 : BitVec 32 := 8#32
  let v1201 : BitVec 32 := Scalar.muli v2 c8_i32_1194
  let v1202 : BitVec 32 := Scalar.addi c0_i32_1195 v1201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1196 : BitVec 32 := 4#32
  let v1203 : BitVec 32 := Scalar.muli v15 c4_i32_1196
  let v1204 : BitVec 32 := Scalar.addi v1202 v1203
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1197 : BitVec 32 := 1#32
  let v1205 : BitVec 32 := Scalar.muli v18 c1_i32_1197
  let v1206 : BitVec 32 := Scalar.addi v1204 v1205
  v1206.toNat
def k0_off12 (d0 : Dev nD) : Fin 4 → Nat :=
  let c0_i32_1201 : BitVec 32 := 0#32
  let c2_i32_1202 : BitVec 32 := 2#32
  let c1_i32_1183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1198 : BitVec 32 := Scalar.subi c1_i32_1183 v2
  let c2_i32_1184 : BitVec 32 := 2#32
  let v1199 : BitVec 32 := Scalar.muli v1198 c2_i32_1184
  let c64_i32_1185 : BitVec 32 := 64#32
  let v1200 : BitVec 32 := Scalar.muli v1199 c64_i32_1185
  let c0_i32_1215 : BitVec 32 := 0#32
  ![0, 2, v1200.toNat, 0]
def k0_dev37 (d0 : Dev nD) : Nat :=
  let c0_i32_1210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1209 : BitVec 32 := 8#32
  let v1215 : BitVec 32 := Scalar.muli v2 c8_i32_1209
  let v1216 : BitVec 32 := Scalar.addi c0_i32_1210 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1211 : BitVec 32 := 4#32
  let v1217 : BitVec 32 := Scalar.muli v23 c4_i32_1211
  let v1218 : BitVec 32 := Scalar.addi v1216 v1217
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1212 : BitVec 32 := 1#32
  let v1219 : BitVec 32 := Scalar.muli v26 c1_i32_1212
  let v1220 : BitVec 32 := Scalar.addi v1218 v1219
  v1220.toNat
def k0_off13 (d0 : Dev nD) : Fin 4 → Nat :=
  let c0_i32_1247 : BitVec 32 := 0#32
  let c2_i32_1248 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1261 : BitVec 32 := 0#32
  ![0, 2, v30.toNat, 0]
def k0_dev38 (d0 : Dev nD) : Nat :=
  let c0_i32_1256 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1255 : BitVec 32 := 8#32
  let v1264 : BitVec 32 := Scalar.muli v27 c8_i32_1255
  let v1265 : BitVec 32 := Scalar.addi c0_i32_1256 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1257 : BitVec 32 := 4#32
  let v1266 : BitVec 32 := Scalar.muli v5 c4_i32_1257
  let v1267 : BitVec 32 := Scalar.addi v1265 v1266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1258 : BitVec 32 := 1#32
  let v1268 : BitVec 32 := Scalar.muli v8 c1_i32_1258
  let v1269 : BitVec 32 := Scalar.addi v1267 v1268
  v1269.toNat
def k0_dev39 (d0 : Dev nD) : Nat :=
  let c0_i32_1270 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1269 : BitVec 32 := 8#32
  let v1278 : BitVec 32 := Scalar.muli v27 c8_i32_1269
  let v1279 : BitVec 32 := Scalar.addi c0_i32_1270 v1278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1271 : BitVec 32 := 4#32
  let v1280 : BitVec 32 := Scalar.muli v5 c4_i32_1271
  let v1281 : BitVec 32 := Scalar.addi v1279 v1280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1282 : BitVec 32 := Scalar.muli v8 c1_i32_1272
  let v1283 : BitVec 32 := Scalar.addi v1281 v1282
  v1283.toNat
def k0_dev40 (d0 : Dev nD) : Nat :=
  let c0_i32_1315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1314 : BitVec 32 := 8#32
  let v1316 : BitVec 32 := Scalar.muli v2 c8_i32_1314
  let v1317 : BitVec 32 := Scalar.addi c0_i32_1315 v1316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1316 : BitVec 32 := 4#32
  let v1318 : BitVec 32 := Scalar.muli v15 c4_i32_1316
  let v1319 : BitVec 32 := Scalar.addi v1317 v1318
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1317 : BitVec 32 := 1#32
  let v1320 : BitVec 32 := Scalar.muli v18 c1_i32_1317
  let v1321 : BitVec 32 := Scalar.addi v1319 v1320
  v1321.toNat
def k0_dev41 (d0 : Dev nD) : Nat :=
  let c0_i32_1331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1330 : BitVec 32 := 8#32
  let v1330 : BitVec 32 := Scalar.muli v2 c8_i32_1330
  let v1331 : BitVec 32 := Scalar.addi c0_i32_1331 v1330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1332 : BitVec 32 := 4#32
  let v1332 : BitVec 32 := Scalar.muli v23 c4_i32_1332
  let v1333 : BitVec 32 := Scalar.addi v1331 v1332
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1333 : BitVec 32 := 1#32
  let v1334 : BitVec 32 := Scalar.muli v26 c1_i32_1333
  let v1335 : BitVec 32 := Scalar.addi v1333 v1334
  v1335.toNat
def k0_off14 (d0 : Dev nD) : Fin 4 → Nat :=
  let c3_i32_1369 : BitVec 32 := 3#32
  let c0_i32_1370 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1383 : BitVec 32 := 0#32
  ![3, 0, v30.toNat, 0]
def k0_dev42 (d0 : Dev nD) : Nat :=
  let c0_i32_1378 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1377 : BitVec 32 := 8#32
  let v1379 : BitVec 32 := Scalar.muli v27 c8_i32_1377
  let v1380 : BitVec 32 := Scalar.addi c0_i32_1378 v1379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1379 : BitVec 32 := 4#32
  let v1381 : BitVec 32 := Scalar.muli v5 c4_i32_1379
  let v1382 : BitVec 32 := Scalar.addi v1380 v1381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1380 : BitVec 32 := 1#32
  let v1383 : BitVec 32 := Scalar.muli v8 c1_i32_1380
  let v1384 : BitVec 32 := Scalar.addi v1382 v1383
  v1384.toNat
def k0_dev43 (d0 : Dev nD) : Nat :=
  let c0_i32_1393 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1392 : BitVec 32 := 8#32
  let v1393 : BitVec 32 := Scalar.muli v27 c8_i32_1392
  let v1394 : BitVec 32 := Scalar.addi c0_i32_1393 v1393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1394 : BitVec 32 := 4#32
  let v1395 : BitVec 32 := Scalar.muli v5 c4_i32_1394
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1395 : BitVec 32 := 1#32
  let v1397 : BitVec 32 := Scalar.muli v8 c1_i32_1395
  let v1398 : BitVec 32 := Scalar.addi v1396 v1397
  v1398.toNat
def k0_dev44 (d0 : Dev nD) : Nat :=
  let c0_i32_1440 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1439 : BitVec 32 := 8#32
  let v1431 : BitVec 32 := Scalar.muli v2 c8_i32_1439
  let v1432 : BitVec 32 := Scalar.addi c0_i32_1440 v1431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1441 : BitVec 32 := 4#32
  let v1433 : BitVec 32 := Scalar.muli v15 c4_i32_1441
  let v1434 : BitVec 32 := Scalar.addi v1432 v1433
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1442 : BitVec 32 := 1#32
  let v1435 : BitVec 32 := Scalar.muli v18 c1_i32_1442
  let v1436 : BitVec 32 := Scalar.addi v1434 v1435
  v1436.toNat
def k0_dev45 (d0 : Dev nD) : Nat :=
  let c0_i32_1456 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1455 : BitVec 32 := 8#32
  let v1445 : BitVec 32 := Scalar.muli v2 c8_i32_1455
  let v1446 : BitVec 32 := Scalar.addi c0_i32_1456 v1445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1457 : BitVec 32 := 4#32
  let v1447 : BitVec 32 := Scalar.muli v23 c4_i32_1457
  let v1448 : BitVec 32 := Scalar.addi v1446 v1447
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1458 : BitVec 32 := 1#32
  let v1449 : BitVec 32 := Scalar.muli v26 c1_i32_1458
  let v1450 : BitVec 32 := Scalar.addi v1448 v1449
  v1450.toNat
def k0_off15 (d0 : Dev nD) : Fin 4 → Nat :=
  let c2_i32_1494 : BitVec 32 := 2#32
  let c1_i32_1495 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1508 : BitVec 32 := 0#32
  ![2, 1, v30.toNat, 0]
def k0_dev46 (d0 : Dev nD) : Nat :=
  let c0_i32_1503 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1502 : BitVec 32 := 8#32
  let v1494 : BitVec 32 := Scalar.muli v27 c8_i32_1502
  let v1495 : BitVec 32 := Scalar.addi c0_i32_1503 v1494
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1504 : BitVec 32 := 4#32
  let v1496 : BitVec 32 := Scalar.muli v5 c4_i32_1504
  let v1497 : BitVec 32 := Scalar.addi v1495 v1496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1505 : BitVec 32 := 1#32
  let v1498 : BitVec 32 := Scalar.muli v8 c1_i32_1505
  let v1499 : BitVec 32 := Scalar.addi v1497 v1498
  v1499.toNat
def k0_dev47 (d0 : Dev nD) : Nat :=
  let c0_i32_1518 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1517 : BitVec 32 := 8#32
  let v1508 : BitVec 32 := Scalar.muli v27 c8_i32_1517
  let v1509 : BitVec 32 := Scalar.addi c0_i32_1518 v1508
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1519 : BitVec 32 := 4#32
  let v1510 : BitVec 32 := Scalar.muli v5 c4_i32_1519
  let v1511 : BitVec 32 := Scalar.addi v1509 v1510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1520 : BitVec 32 := 1#32
  let v1512 : BitVec 32 := Scalar.muli v8 c1_i32_1520
  let v1513 : BitVec 32 := Scalar.addi v1511 v1512
  v1513.toNat
def k0_off16 (d0 : Dev nD) : Fin 4 → Nat :=
  let c1_i32_1560 : BitVec 32 := 1#32
  let c2_i32_1561 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_1556 : BitVec 32 := 64#32
  let v1546 : BitVec 32 := Scalar.muli v2 c64_i32_1556
  let c0_i32_1574 : BitVec 32 := 0#32
  ![1, 2, v1546.toNat, 0]
def k0_dev48 (d0 : Dev nD) : Nat :=
  let c0_i32_1569 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1568 : BitVec 32 := 8#32
  let v1550 : BitVec 32 := Scalar.muli v2 c8_i32_1568
  let v1551 : BitVec 32 := Scalar.addi c0_i32_1569 v1550
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1570 : BitVec 32 := 4#32
  let v1552 : BitVec 32 := Scalar.muli v15 c4_i32_1570
  let v1553 : BitVec 32 := Scalar.addi v1551 v1552
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1571 : BitVec 32 := 1#32
  let v1554 : BitVec 32 := Scalar.muli v18 c1_i32_1571
  let v1555 : BitVec 32 := Scalar.addi v1553 v1554
  v1555.toNat
def k0_off17 (d0 : Dev nD) : Fin 4 → Nat :=
  let c1_i32_1575 : BitVec 32 := 1#32
  let c2_i32_1576 : BitVec 32 := 2#32
  let c1_i32_1557 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1547 : BitVec 32 := Scalar.subi c1_i32_1557 v2
  let c2_i32_1558 : BitVec 32 := 2#32
  let v1548 : BitVec 32 := Scalar.muli v1547 c2_i32_1558
  let c64_i32_1559 : BitVec 32 := 64#32
  let v1549 : BitVec 32 := Scalar.muli v1548 c64_i32_1559
  let c0_i32_1589 : BitVec 32 := 0#32
  ![1, 2, v1549.toNat, 0]
def k0_dev49 (d0 : Dev nD) : Nat :=
  let c0_i32_1584 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1583 : BitVec 32 := 8#32
  let v1564 : BitVec 32 := Scalar.muli v2 c8_i32_1583
  let v1565 : BitVec 32 := Scalar.addi c0_i32_1584 v1564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1585 : BitVec 32 := 4#32
  let v1566 : BitVec 32 := Scalar.muli v23 c4_i32_1585
  let v1567 : BitVec 32 := Scalar.addi v1565 v1566
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1586 : BitVec 32 := 1#32
  let v1568 : BitVec 32 := Scalar.muli v26 c1_i32_1586
  let v1569 : BitVec 32 := Scalar.addi v1567 v1568
  v1569.toNat
def k0_off18 (d0 : Dev nD) : Fin 4 → Nat :=
  let c1_i32_1621 : BitVec 32 := 1#32
  let c2_i32_1622 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1635 : BitVec 32 := 0#32
  ![1, 2, v30.toNat, 0]
def k0_dev50 (d0 : Dev nD) : Nat :=
  let c0_i32_1630 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1629 : BitVec 32 := 8#32
  let v1613 : BitVec 32 := Scalar.muli v27 c8_i32_1629
  let v1614 : BitVec 32 := Scalar.addi c0_i32_1630 v1613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1631 : BitVec 32 := 4#32
  let v1615 : BitVec 32 := Scalar.muli v5 c4_i32_1631
  let v1616 : BitVec 32 := Scalar.addi v1614 v1615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1632 : BitVec 32 := 1#32
  let v1617 : BitVec 32 := Scalar.muli v8 c1_i32_1632
  let v1618 : BitVec 32 := Scalar.addi v1616 v1617
  v1618.toNat
def k0_dev51 (d0 : Dev nD) : Nat :=
  let c0_i32_1645 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1644 : BitVec 32 := 8#32
  let v1627 : BitVec 32 := Scalar.muli v27 c8_i32_1644
  let v1628 : BitVec 32 := Scalar.addi c0_i32_1645 v1627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1646 : BitVec 32 := 4#32
  let v1629 : BitVec 32 := Scalar.muli v5 c4_i32_1646
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1647 : BitVec 32 := 1#32
  let v1631 : BitVec 32 := Scalar.muli v8 c1_i32_1647
  let v1632 : BitVec 32 := Scalar.addi v1630 v1631
  v1632.toNat
def k0_off19 (d0 : Dev nD) (c0_i32_1694 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_1681 : BitVec 32 := 4#32
  let v1665 : BitVec 32 := Scalar.addi v11 c4_i32_1681
  let c8_i32_1682 : BitVec 32 := 8#32
  let v1666 : BitVec 32 := Scalar.remsi v1665 c8_i32_1682
  let c4_i32_1688 : BitVec 32 := 4#32
  let v1671 : BitVec 1 := Scalar.cmpi .slt v1666 c4_i32_1688
  let c0_i32_1689 : BitVec 32 := 0#32
  let c1_i32_1690 : BitVec 32 := 1#32
  let v1672 : BitVec 32 := Scalar.select v1671 c0_i32_1689 c1_i32_1690
  let c1024_i32_1693 : BitVec 32 := 1024#32
  let v1676 : BitVec 32 := Scalar.muli v1672 c1024_i32_1693
  let v1677 : BitVec 32 := Scalar.addi v1676 c0_i32_1694
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32 : BitVec 32 := 64#32
  let v28 : BitVec 32 := Scalar.muli v2 c64_i32
  let c64_i32_1687 : BitVec 32 := 64#32
  let v1669 : BitVec 32 := Scalar.muli v2 c64_i32_1687
  let v1670 : BitVec 32 := Scalar.addi v28 v1669
  let v1678 : BitVec 32 := Scalar.addi v1677 v1670
  let v1680 : Index := Scalar.indexCast v1678
  let c4_i32_1691 : BitVec 32 := 4#32
  let v1673 : BitVec 1 := Scalar.cmpi .slt v1666 c4_i32_1691
  let c7_i32_1692 : BitVec 32 := 7#32
  let v1674 : BitVec 32 := Scalar.subi c7_i32_1692 v1666
  let v1675 : BitVec 32 := Scalar.select v1673 v1666 v1674
  let c512_i32_1695 : BitVec 32 := 512#32
  let v1679 : BitVec 32 := Scalar.muli v1675 c512_i32_1695
  let v1681 : Index := Scalar.indexCast v1679
  ![v1680.toNat, v1681.toNat]
def k0_off20 (d0 : Dev nD) (c0_i32_1709 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_1681 : BitVec 32 := 4#32
  let v1665 : BitVec 32 := Scalar.addi v11 c4_i32_1681
  let c8_i32_1682 : BitVec 32 := 8#32
  let v1666 : BitVec 32 := Scalar.remsi v1665 c8_i32_1682
  let c4_i32_1703 : BitVec 32 := 4#32
  let v1689 : BitVec 1 := Scalar.cmpi .slt v1666 c4_i32_1703
  let c0_i32_1704 : BitVec 32 := 0#32
  let c1_i32_1705 : BitVec 32 := 1#32
  let v1690 : BitVec 32 := Scalar.select v1689 c0_i32_1704 c1_i32_1705
  let c1024_i32_1708 : BitVec 32 := 1024#32
  let v1694 : BitVec 32 := Scalar.muli v1690 c1024_i32_1708
  let v1695 : BitVec 32 := Scalar.addi v1694 c0_i32_1709
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32 : BitVec 32 := 64#32
  let v28 : BitVec 32 := Scalar.muli v2 c64_i32
  let c1_i32_1700 : BitVec 32 := 1#32
  let v1685 : BitVec 32 := Scalar.subi c1_i32_1700 v2
  let c2_i32_1701 : BitVec 32 := 2#32
  let v1686 : BitVec 32 := Scalar.muli v1685 c2_i32_1701
  let c64_i32_1702 : BitVec 32 := 64#32
  let v1687 : BitVec 32 := Scalar.muli v1686 c64_i32_1702
  let v1688 : BitVec 32 := Scalar.addi v28 v1687
  let v1696 : BitVec 32 := Scalar.addi v1695 v1688
  let v1698 : Index := Scalar.indexCast v1696
  let c4_i32_1706 : BitVec 32 := 4#32
  let v1691 : BitVec 1 := Scalar.cmpi .slt v1666 c4_i32_1706
  let c7_i32_1707 : BitVec 32 := 7#32
  let v1692 : BitVec 32 := Scalar.subi c7_i32_1707 v1666
  let v1693 : BitVec 32 := Scalar.select v1691 v1666 v1692
  let c512_i32_1710 : BitVec 32 := 512#32
  let v1697 : BitVec 32 := Scalar.muli v1693 c512_i32_1710
  let v1699 : Index := Scalar.indexCast v1697
  ![v1698.toNat, v1699.toNat]
def k0_off21 (d0 : Dev nD) : Fin 4 → Nat :=
  let c0_i32_1712 : BitVec 32 := 0#32
  let c3_i32_1713 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_1711 : BitVec 32 := 64#32
  let v1701 : BitVec 32 := Scalar.muli v2 c64_i32_1711
  let c0_i32_1725 : BitVec 32 := 0#32
  ![0, 3, v1701.toNat, 0]
def k0_dev52 (d0 : Dev nD) : Nat :=
  let c0_i32_1720 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1719 : BitVec 32 := 8#32
  let v1702 : BitVec 32 := Scalar.muli v27 c8_i32_1719
  let v1703 : BitVec 32 := Scalar.addi c0_i32_1720 v1702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1721 : BitVec 32 := 4#32
  let v1704 : BitVec 32 := Scalar.muli v5 c4_i32_1721
  let v1705 : BitVec 32 := Scalar.addi v1703 v1704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1722 : BitVec 32 := 1#32
  let v1706 : BitVec 32 := Scalar.muli v8 c1_i32_1722
  let v1707 : BitVec 32 := Scalar.addi v1705 v1706
  v1707.toNat
def k0_dev53 (d0 : Dev nD) : Nat :=
  let c0_i32_1767 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1766 : BitVec 32 := 8#32
  let v1740 : BitVec 32 := Scalar.muli v2 c8_i32_1766
  let v1741 : BitVec 32 := Scalar.addi c0_i32_1767 v1740
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1768 : BitVec 32 := 4#32
  let v1742 : BitVec 32 := Scalar.muli v15 c4_i32_1768
  let v1743 : BitVec 32 := Scalar.addi v1741 v1742
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1769 : BitVec 32 := 1#32
  let v1744 : BitVec 32 := Scalar.muli v18 c1_i32_1769
  let v1745 : BitVec 32 := Scalar.addi v1743 v1744
  v1745.toNat
def k0_dev54 (d0 : Dev nD) : Nat :=
  let c0_i32_1783 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1782 : BitVec 32 := 8#32
  let v1754 : BitVec 32 := Scalar.muli v2 c8_i32_1782
  let v1755 : BitVec 32 := Scalar.addi c0_i32_1783 v1754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1784 : BitVec 32 := 4#32
  let v1756 : BitVec 32 := Scalar.muli v23 c4_i32_1784
  let v1757 : BitVec 32 := Scalar.addi v1755 v1756
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1785 : BitVec 32 := 1#32
  let v1758 : BitVec 32 := Scalar.muli v26 c1_i32_1785
  let v1759 : BitVec 32 := Scalar.addi v1757 v1758
  v1759.toNat
def k0_off22 (d0 : Dev nD) : Fin 4 → Nat :=
  let c3_i32_1821 : BitVec 32 := 3#32
  let c1_i32_1822 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1835 : BitVec 32 := 0#32
  ![3, 1, v30.toNat, 0]
def k0_dev55 (d0 : Dev nD) : Nat :=
  let c0_i32_1830 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1829 : BitVec 32 := 8#32
  let v1803 : BitVec 32 := Scalar.muli v27 c8_i32_1829
  let v1804 : BitVec 32 := Scalar.addi c0_i32_1830 v1803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1831 : BitVec 32 := 4#32
  let v1805 : BitVec 32 := Scalar.muli v5 c4_i32_1831
  let v1806 : BitVec 32 := Scalar.addi v1804 v1805
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1832 : BitVec 32 := 1#32
  let v1807 : BitVec 32 := Scalar.muli v8 c1_i32_1832
  let v1808 : BitVec 32 := Scalar.addi v1806 v1807
  v1808.toNat
def k0_dev56 (d0 : Dev nD) : Nat :=
  let c0_i32_1845 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1844 : BitVec 32 := 8#32
  let v1817 : BitVec 32 := Scalar.muli v27 c8_i32_1844
  let v1818 : BitVec 32 := Scalar.addi c0_i32_1845 v1817
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1846 : BitVec 32 := 4#32
  let v1819 : BitVec 32 := Scalar.muli v5 c4_i32_1846
  let v1820 : BitVec 32 := Scalar.addi v1818 v1819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1847 : BitVec 32 := 1#32
  let v1821 : BitVec 32 := Scalar.muli v8 c1_i32_1847
  let v1822 : BitVec 32 := Scalar.addi v1820 v1821
  v1822.toNat
def k0_off23 (d0 : Dev nD) : Fin 4 → Nat :=
  let c2_i32_1887 : BitVec 32 := 2#32
  let c2_i32_1888 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_1883 : BitVec 32 := 64#32
  let v1855 : BitVec 32 := Scalar.muli v2 c64_i32_1883
  let c0_i32_1901 : BitVec 32 := 0#32
  ![2, 2, v1855.toNat, 0]
def k0_dev57 (d0 : Dev nD) : Nat :=
  let c0_i32_1896 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1895 : BitVec 32 := 8#32
  let v1859 : BitVec 32 := Scalar.muli v2 c8_i32_1895
  let v1860 : BitVec 32 := Scalar.addi c0_i32_1896 v1859
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_1897 : BitVec 32 := 4#32
  let v1861 : BitVec 32 := Scalar.muli v15 c4_i32_1897
  let v1862 : BitVec 32 := Scalar.addi v1860 v1861
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_1898 : BitVec 32 := 1#32
  let v1863 : BitVec 32 := Scalar.muli v18 c1_i32_1898
  let v1864 : BitVec 32 := Scalar.addi v1862 v1863
  v1864.toNat
def k0_off24 (d0 : Dev nD) : Fin 4 → Nat :=
  let c2_i32_1902 : BitVec 32 := 2#32
  let c2_i32_1903 : BitVec 32 := 2#32
  let c1_i32_1884 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1856 : BitVec 32 := Scalar.subi c1_i32_1884 v2
  let c2_i32_1885 : BitVec 32 := 2#32
  let v1857 : BitVec 32 := Scalar.muli v1856 c2_i32_1885
  let c64_i32_1886 : BitVec 32 := 64#32
  let v1858 : BitVec 32 := Scalar.muli v1857 c64_i32_1886
  let c0_i32_1916 : BitVec 32 := 0#32
  ![2, 2, v1858.toNat, 0]
def k0_dev58 (d0 : Dev nD) : Nat :=
  let c0_i32_1911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1910 : BitVec 32 := 8#32
  let v1873 : BitVec 32 := Scalar.muli v2 c8_i32_1910
  let v1874 : BitVec 32 := Scalar.addi c0_i32_1911 v1873
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_1912 : BitVec 32 := 4#32
  let v1875 : BitVec 32 := Scalar.muli v23 c4_i32_1912
  let v1876 : BitVec 32 := Scalar.addi v1874 v1875
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_1913 : BitVec 32 := 1#32
  let v1877 : BitVec 32 := Scalar.muli v26 c1_i32_1913
  let v1878 : BitVec 32 := Scalar.addi v1876 v1877
  v1878.toNat
def k0_off25 (d0 : Dev nD) : Fin 4 → Nat :=
  let c2_i32_1948 : BitVec 32 := 2#32
  let c2_i32_1949 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_1962 : BitVec 32 := 0#32
  ![2, 2, v30.toNat, 0]
def k0_dev59 (d0 : Dev nD) : Nat :=
  let c0_i32_1957 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1956 : BitVec 32 := 8#32
  let v1922 : BitVec 32 := Scalar.muli v27 c8_i32_1956
  let v1923 : BitVec 32 := Scalar.addi c0_i32_1957 v1922
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1958 : BitVec 32 := 4#32
  let v1924 : BitVec 32 := Scalar.muli v5 c4_i32_1958
  let v1925 : BitVec 32 := Scalar.addi v1923 v1924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1959 : BitVec 32 := 1#32
  let v1926 : BitVec 32 := Scalar.muli v8 c1_i32_1959
  let v1927 : BitVec 32 := Scalar.addi v1925 v1926
  v1927.toNat
def k0_dev60 (d0 : Dev nD) : Nat :=
  let c0_i32_1972 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_1971 : BitVec 32 := 8#32
  let v1936 : BitVec 32 := Scalar.muli v27 c8_i32_1971
  let v1937 : BitVec 32 := Scalar.addi c0_i32_1972 v1936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1973 : BitVec 32 := 4#32
  let v1938 : BitVec 32 := Scalar.muli v5 c4_i32_1973
  let v1939 : BitVec 32 := Scalar.addi v1937 v1938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1974 : BitVec 32 := 1#32
  let v1940 : BitVec 32 := Scalar.muli v8 c1_i32_1974
  let v1941 : BitVec 32 := Scalar.addi v1939 v1940
  v1941.toNat
def k0_off26 (d0 : Dev nD) : Fin 4 → Nat :=
  let c1_i32_2039 : BitVec 32 := 1#32
  let c3_i32_2040 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_2038 : BitVec 32 := 64#32
  let v2010 : BitVec 32 := Scalar.muli v2 c64_i32_2038
  let c0_i32_2053 : BitVec 32 := 0#32
  ![1, 3, v2010.toNat, 0]
def k0_dev61 (d0 : Dev nD) : Nat :=
  let c0_i32_2048 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_2047 : BitVec 32 := 8#32
  let v2011 : BitVec 32 := Scalar.muli v27 c8_i32_2047
  let v2012 : BitVec 32 := Scalar.addi c0_i32_2048 v2011
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2049 : BitVec 32 := 4#32
  let v2013 : BitVec 32 := Scalar.muli v5 c4_i32_2049
  let v2014 : BitVec 32 := Scalar.addi v2012 v2013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2050 : BitVec 32 := 1#32
  let v2015 : BitVec 32 := Scalar.muli v8 c1_i32_2050
  let v2016 : BitVec 32 := Scalar.addi v2014 v2015
  v2016.toNat
def k0_off27 (d0 : Dev nD) : Fin 4 → Nat :=
  let c3_i32_2090 : BitVec 32 := 3#32
  let c2_i32_2091 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_2086 : BitVec 32 := 64#32
  let v2049 : BitVec 32 := Scalar.muli v2 c64_i32_2086
  let c0_i32_2104 : BitVec 32 := 0#32
  ![3, 2, v2049.toNat, 0]
def k0_dev62 (d0 : Dev nD) : Nat :=
  let c0_i32_2099 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2098 : BitVec 32 := 8#32
  let v2053 : BitVec 32 := Scalar.muli v2 c8_i32_2098
  let v2054 : BitVec 32 := Scalar.addi c0_i32_2099 v2053
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let v13 : BitVec 32 := Scalar.remsi v12 c8_i32_3
  let c4_i32_4 : BitVec 32 := 4#32
  let v14 : BitVec 1 := Scalar.cmpi .slt v13 c4_i32_4
  let c0_i32_5 : BitVec 32 := 0#32
  let c1_i32_6 : BitVec 32 := 1#32
  let v15 : BitVec 32 := Scalar.select v14 c0_i32_5 c1_i32_6
  let c4_i32_2100 : BitVec 32 := 4#32
  let v2055 : BitVec 32 := Scalar.muli v15 c4_i32_2100
  let v2056 : BitVec 32 := Scalar.addi v2054 v2055
  let c4_i32_7 : BitVec 32 := 4#32
  let v16 : BitVec 1 := Scalar.cmpi .slt v13 c4_i32_7
  let c7_i32_8 : BitVec 32 := 7#32
  let v17 : BitVec 32 := Scalar.subi c7_i32_8 v13
  let v18 : BitVec 32 := Scalar.select v16 v13 v17
  let c1_i32_2101 : BitVec 32 := 1#32
  let v2057 : BitVec 32 := Scalar.muli v18 c1_i32_2101
  let v2058 : BitVec 32 := Scalar.addi v2056 v2057
  v2058.toNat
def k0_off28 (d0 : Dev nD) : Fin 4 → Nat :=
  let c3_i32_2105 : BitVec 32 := 3#32
  let c2_i32_2106 : BitVec 32 := 2#32
  let c1_i32_2087 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2050 : BitVec 32 := Scalar.subi c1_i32_2087 v2
  let c2_i32_2088 : BitVec 32 := 2#32
  let v2051 : BitVec 32 := Scalar.muli v2050 c2_i32_2088
  let c64_i32_2089 : BitVec 32 := 64#32
  let v2052 : BitVec 32 := Scalar.muli v2051 c64_i32_2089
  let c0_i32_2119 : BitVec 32 := 0#32
  ![3, 2, v2052.toNat, 0]
def k0_dev63 (d0 : Dev nD) : Nat :=
  let c0_i32_2114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2113 : BitVec 32 := 8#32
  let v2067 : BitVec 32 := Scalar.muli v2 c8_i32_2113
  let v2068 : BitVec 32 := Scalar.addi c0_i32_2114 v2067
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_9 : BitVec 32 := 8#32
  let v19 : BitVec 32 := Scalar.addi v11 c8_i32_9
  let c1_i32_10 : BitVec 32 := 1#32
  let v20 : BitVec 32 := Scalar.subi v19 c1_i32_10
  let c8_i32_11 : BitVec 32 := 8#32
  let v21 : BitVec 32 := Scalar.remsi v20 c8_i32_11
  let c4_i32_12 : BitVec 32 := 4#32
  let v22 : BitVec 1 := Scalar.cmpi .slt v21 c4_i32_12
  let c0_i32_13 : BitVec 32 := 0#32
  let c1_i32_14 : BitVec 32 := 1#32
  let v23 : BitVec 32 := Scalar.select v22 c0_i32_13 c1_i32_14
  let c4_i32_2115 : BitVec 32 := 4#32
  let v2069 : BitVec 32 := Scalar.muli v23 c4_i32_2115
  let v2070 : BitVec 32 := Scalar.addi v2068 v2069
  let c4_i32_15 : BitVec 32 := 4#32
  let v24 : BitVec 1 := Scalar.cmpi .slt v21 c4_i32_15
  let c7_i32_16 : BitVec 32 := 7#32
  let v25 : BitVec 32 := Scalar.subi c7_i32_16 v21
  let v26 : BitVec 32 := Scalar.select v24 v21 v25
  let c1_i32_2116 : BitVec 32 := 1#32
  let v2071 : BitVec 32 := Scalar.muli v26 c1_i32_2116
  let v2072 : BitVec 32 := Scalar.addi v2070 v2071
  v2072.toNat
def k0_off29 (d0 : Dev nD) : Fin 4 → Nat :=
  let c3_i32_2151 : BitVec 32 := 3#32
  let c2_i32_2152 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_18 : BitVec 32 := 2#32
  let v29 : BitVec 32 := Scalar.muli v2 c2_i32_18
  let c64_i32_19 : BitVec 32 := 64#32
  let v30 : BitVec 32 := Scalar.muli v29 c64_i32_19
  let c0_i32_2165 : BitVec 32 := 0#32
  ![3, 2, v30.toNat, 0]
def k0_dev64 (d0 : Dev nD) : Nat :=
  let c0_i32_2160 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_2159 : BitVec 32 := 8#32
  let v2116 : BitVec 32 := Scalar.muli v27 c8_i32_2159
  let v2117 : BitVec 32 := Scalar.addi c0_i32_2160 v2116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2161 : BitVec 32 := 4#32
  let v2118 : BitVec 32 := Scalar.muli v5 c4_i32_2161
  let v2119 : BitVec 32 := Scalar.addi v2117 v2118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2162 : BitVec 32 := 1#32
  let v2120 : BitVec 32 := Scalar.muli v8 c1_i32_2162
  let v2121 : BitVec 32 := Scalar.addi v2119 v2120
  v2121.toNat
def k0_dev65 (d0 : Dev nD) : Nat :=
  let c0_i32_2175 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_2174 : BitVec 32 := 8#32
  let v2130 : BitVec 32 := Scalar.muli v27 c8_i32_2174
  let v2131 : BitVec 32 := Scalar.addi c0_i32_2175 v2130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2176 : BitVec 32 := 4#32
  let v2132 : BitVec 32 := Scalar.muli v5 c4_i32_2176
  let v2133 : BitVec 32 := Scalar.addi v2131 v2132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2177 : BitVec 32 := 1#32
  let v2134 : BitVec 32 := Scalar.muli v8 c1_i32_2177
  let v2135 : BitVec 32 := Scalar.addi v2133 v2134
  v2135.toNat
def k0_off30 (d0 : Dev nD) : Fin 4 → Nat :=
  let c2_i32_2242 : BitVec 32 := 2#32
  let c3_i32_2243 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_2241 : BitVec 32 := 64#32
  let v2204 : BitVec 32 := Scalar.muli v2 c64_i32_2241
  let c0_i32_2256 : BitVec 32 := 0#32
  ![2, 3, v2204.toNat, 0]
def k0_dev66 (d0 : Dev nD) : Nat :=
  let c0_i32_2251 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_2250 : BitVec 32 := 8#32
  let v2205 : BitVec 32 := Scalar.muli v27 c8_i32_2250
  let v2206 : BitVec 32 := Scalar.addi c0_i32_2251 v2205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2252 : BitVec 32 := 4#32
  let v2207 : BitVec 32 := Scalar.muli v5 c4_i32_2252
  let v2208 : BitVec 32 := Scalar.addi v2206 v2207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2253 : BitVec 32 := 1#32
  let v2209 : BitVec 32 := Scalar.muli v8 c1_i32_2253
  let v2210 : BitVec 32 := Scalar.addi v2208 v2209
  v2210.toNat
def k0_off31 (d0 : Dev nD) : Fin 4 → Nat :=
  let c3_i32_2318 : BitVec 32 := 3#32
  let c3_i32_2319 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c64_i32_2317 : BitVec 32 := 64#32
  let v2279 : BitVec 32 := Scalar.muli v2 c64_i32_2317
  let c0_i32_2332 : BitVec 32 := 0#32
  ![3, 3, v2279.toNat, 0]
def k0_dev67 (d0 : Dev nD) : Nat :=
  let c0_i32_2327 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_17 v2
  let c8_i32_2326 : BitVec 32 := 8#32
  let v2280 : BitVec 32 := Scalar.muli v27 c8_i32_2326
  let v2281 : BitVec 32 := Scalar.addi c0_i32_2327 v2280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2328 : BitVec 32 := 4#32
  let v2282 : BitVec 32 := Scalar.muli v5 c4_i32_2328
  let v2283 : BitVec 32 := Scalar.addi v2281 v2282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2329 : BitVec 32 := 1#32
  let v2284 : BitVec 32 := Scalar.muli v8 c1_i32_2329
  let v2285 : BitVec 32 := Scalar.addi v2283 v2284
  v2285.toNat
def k0_off32 (d0 : Dev nD) (c0_i32_3526 : BitVec 32) (c0_i32_3543 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_3525 : BitVec 32 := 8#32
  let v3006 : BitVec 32 := Scalar.addi v11 c8_i32_3525
  let v3007 : BitVec 32 := Scalar.subi v3006 c0_i32_3526
  let c1_i32_3527 : BitVec 32 := 1#32
  let v3008 : BitVec 32 := Scalar.subi v3007 c1_i32_3527
  let c8_i32_3528 : BitVec 32 := 8#32
  let v3009 : BitVec 32 := Scalar.remsi v3008 c8_i32_3528
  let c4_i32_3537 : BitVec 32 := 4#32
  let v3017 : BitVec 1 := Scalar.cmpi .slt v3009 c4_i32_3537
  let c0_i32_3538 : BitVec 32 := 0#32
  let c1_i32_3539 : BitVec 32 := 1#32
  let v3018 : BitVec 32 := Scalar.select v3017 c0_i32_3538 c1_i32_3539
  let c1024_i32_3542 : BitVec 32 := 1024#32
  let v3022 : BitVec 32 := Scalar.muli v3018 c1024_i32_3542
  let v3023 : BitVec 32 := Scalar.addi v3022 c0_i32_3543
  let c1_i32_3536 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3015 : BitVec 32 := Scalar.subi c1_i32_3536 v2
  let c192_i32 : BitVec 32 := 192#32
  let v3016 : BitVec 32 := Scalar.muli v3015 c192_i32
  let v3024 : BitVec 32 := Scalar.addi v3023 v3016
  let v3026 : Index := Scalar.indexCast v3024
  let c4_i32_3540 : BitVec 32 := 4#32
  let v3019 : BitVec 1 := Scalar.cmpi .slt v3009 c4_i32_3540
  let c7_i32_3541 : BitVec 32 := 7#32
  let v3020 : BitVec 32 := Scalar.subi c7_i32_3541 v3009
  let v3021 : BitVec 32 := Scalar.select v3019 v3009 v3020
  let c512_i32_3544 : BitVec 32 := 512#32
  let v3025 : BitVec 32 := Scalar.muli v3021 c512_i32_3544
  let v3027 : Index := Scalar.indexCast v3025
  ![v3026.toNat, v3027.toNat]
def k0_off33 (d0 : Dev nD) (c0_i32_3529 : BitVec 32) (c0_i32_3557 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v3010 : BitVec 32 := Scalar.addi v11 c0_i32_3529
  let c1_i32_3530 : BitVec 32 := 1#32
  let v3011 : BitVec 32 := Scalar.addi v3010 c1_i32_3530
  let c8_i32_3531 : BitVec 32 := 8#32
  let v3012 : BitVec 32 := Scalar.remsi v3011 c8_i32_3531
  let c4_i32_3551 : BitVec 32 := 4#32
  let v3033 : BitVec 1 := Scalar.cmpi .slt v3012 c4_i32_3551
  let c0_i32_3552 : BitVec 32 := 0#32
  let c1_i32_3553 : BitVec 32 := 1#32
  let v3034 : BitVec 32 := Scalar.select v3033 c0_i32_3552 c1_i32_3553
  let c1024_i32_3556 : BitVec 32 := 1024#32
  let v3038 : BitVec 32 := Scalar.muli v3034 c1024_i32_3556
  let v3039 : BitVec 32 := Scalar.addi v3038 c0_i32_3557
  let c1_i32_3549 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3031 : BitVec 32 := Scalar.subi c1_i32_3549 v2
  let c192_i32_3550 : BitVec 32 := 192#32
  let v3032 : BitVec 32 := Scalar.muli v3031 c192_i32_3550
  let v3040 : BitVec 32 := Scalar.addi v3039 v3032
  let v3042 : Index := Scalar.indexCast v3040
  let c4_i32_3554 : BitVec 32 := 4#32
  let v3035 : BitVec 1 := Scalar.cmpi .slt v3012 c4_i32_3554
  let c7_i32_3555 : BitVec 32 := 7#32
  let v3036 : BitVec 32 := Scalar.subi c7_i32_3555 v3012
  let v3037 : BitVec 32 := Scalar.select v3035 v3012 v3036
  let c512_i32_3558 : BitVec 32 := 512#32
  let v3041 : BitVec 32 := Scalar.muli v3037 c512_i32_3558
  let v3043 : Index := Scalar.indexCast v3041
  ![v3042.toNat, v3043.toNat]
def k0_off34 (d0 : Dev nD) (c0_i32_3640 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_3627 : BitVec 32 := 4#32
  let v3123 : BitVec 32 := Scalar.addi v11 c4_i32_3627
  let c8_i32_3628 : BitVec 32 := 8#32
  let v3124 : BitVec 32 := Scalar.remsi v3123 c8_i32_3628
  let c4_i32_3634 : BitVec 32 := 4#32
  let v3129 : BitVec 1 := Scalar.cmpi .slt v3124 c4_i32_3634
  let c0_i32_3635 : BitVec 32 := 0#32
  let c1_i32_3636 : BitVec 32 := 1#32
  let v3130 : BitVec 32 := Scalar.select v3129 c0_i32_3635 c1_i32_3636
  let c1024_i32_3639 : BitVec 32 := 1024#32
  let v3134 : BitVec 32 := Scalar.muli v3130 c1024_i32_3639
  let v3135 : BitVec 32 := Scalar.addi v3134 c0_i32_3640
  let c1_i32_3632 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3127 : BitVec 32 := Scalar.subi c1_i32_3632 v2
  let c192_i32_3633 : BitVec 32 := 192#32
  let v3128 : BitVec 32 := Scalar.muli v3127 c192_i32_3633
  let v3136 : BitVec 32 := Scalar.addi v3135 v3128
  let v3138 : Index := Scalar.indexCast v3136
  let c4_i32_3637 : BitVec 32 := 4#32
  let v3131 : BitVec 1 := Scalar.cmpi .slt v3124 c4_i32_3637
  let c7_i32_3638 : BitVec 32 := 7#32
  let v3132 : BitVec 32 := Scalar.subi c7_i32_3638 v3124
  let v3133 : BitVec 32 := Scalar.select v3131 v3124 v3132
  let c512_i32_3641 : BitVec 32 := 512#32
  let v3137 : BitVec 32 := Scalar.muli v3133 c512_i32_3641
  let v3139 : Index := Scalar.indexCast v3137
  ![v3138.toNat, v3139.toNat]
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | .hbm, ⟨4, _⟩ => ⟨S2048x2048, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
The kernel's body as a list of instructions.

The printed body is a straight line of about seven hundred memory operations.  It is read here as a list of
forty-odd kinds of instruction (start and finish one staged chunk, one GEMM block, one remote copy, one wait, one
store into the result, …), each run by `exec`; `body_eq` says that the printed body is that list.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A remote copy: the exchange of sub-block `s` across the x axis (`X`); the first hop of sub-block `s` around
    the ring in direction `d` (`I`), its next two hops (`C`, numbered from 0), its last hop (`E`, which carries only
    a part); the copy to the x peer of what hop `h` brought (`M`), and of what the last hop brought (`Z`). -/
inductive Tr where
  | X (s : Fin 4)
  | I (d : Bool) (s : Fin 4)
  | C (d : Bool) (s : Fin 4) (h : Fin 2)
  | E (d : Bool) (s : Fin 4)
  | M (d : Bool) (s : Fin 4) (h : Fin 3)
  | Z (s : Fin 4)
deriving DecidableEq

/-- A staged chunk: 128 rows of the weights (`W`) or of the activations (`D`). -/
inductive Ck where
  | W (i : Fin 4)
  | D (i : Fin 8)
deriving DecidableEq

instance : Fintype Tr where
  elems := Finset.univ.image Tr.X ∪ (Finset.univ.image (fun p : Bool × Fin 4 => Tr.I p.1 p.2) ∪
    (Finset.univ.image (fun p : Bool × Fin 4 × Fin 2 => Tr.C p.1 p.2.1 p.2.2) ∪
    (Finset.univ.image (fun p : Bool × Fin 4 => Tr.E p.1 p.2) ∪
    (Finset.univ.image (fun p : Bool × Fin 4 × Fin 3 => Tr.M p.1 p.2.1 p.2.2) ∪ Finset.univ.image Tr.Z))))
  complete t := by cases t <;> simp

/-! ## The devices -/

/-- The peer across the x axis. -/
abbrev xpeer (c : Dev nD) : Dev nD := ⟨k0_dev1 c, k0_dev1_lt c⟩
/-- The next device of the ring. -/
abbrev nxt (c : Dev nD) : Dev nD := ⟨k0_dev2 c, k0_dev2_lt c⟩
/-- The device before on the ring. -/
abbrev prv (c : Dev nD) : Dev nD := ⟨k0_dev3 c, k0_dev3_lt c⟩

/-- The device a copy goes to. -/
def peer : Tr → Dev nD → Dev nD
  | .X _, c => xpeer c
  | .I false _, c | .C false _ _, c | .E false _, c => nxt c
  | .I true _, c | .C true _ _, c | .E true _, c => prv c
  | .M _ _ _, c | .Z _, c => xpeer c

/-! ## The buffers -/

abbrev bA : Memref sig .tc .hbm S2048x8192 .f32 := Memref.whole main_arg0
abbrev bB : Memref sig .tc .hbm S2048x8192 .f32 := Memref.whole main_arg1
abbrev bOut : Memref sig .tc .vmem S2048x2048 .bf16 := Memref.whole cc0_stg0_0
abbrev bD : Memref sig .tc .vmem S1024x8192 .bf16 := Memref.whole cc0_scratch0
abbrev bW : Memref sig .tc .vmem S512x8192 .bf16 := Memref.whole cc0_scratch1
abbrev bStg : Memref sig .tc .vmem S3x128x8192 .f32 := Memref.whole cc0_scratch2
abbrev bAcc : Memref sig .tc .vmem S1024x512 .f32 := Memref.whole cc0_scratch3
abbrev bXs : Memref sig .tc .vmem S1024x512 .bf16 := Memref.whole cc0_scratch4
abbrev bXr : Memref sig .tc .vmem S1024x512 .bf16 := Memref.whole cc0_scratch5
abbrev bOwn : Memref sig .tc .vmem S4x192x512 .bf16 := Memref.whole cc0_scratch6
/-- The landing buffer of ring direction `d`. -/
abbrev bRing : Bool → Memref sig .tc .vmem S4x4x192x512 .bf16
  | false => Memref.whole cc0_scratch7
  | true => Memref.whole cc0_scratch8
abbrev bM : Memref sig .tc .vmem S4x7x64x512 .bf16 := Memref.whole cc0_scratch9

theorem wRing (d : Bool) : (bRing d).IsWhole := by cases d <;> exact Memref.isWhole_whole _

/-- `n` rows of 512. -/
abbrev SR (n : ℕ) : Shape := ⟨2, ![n, 512]⟩

/-! ## Windows of the buffers -/

theorem inb2 {N n o : ℕ} (h : o + n ≤ N) : ∀ a, (![o, 0] : Fin 2 → ℕ) a + (SR n).size a ≤ (SR N).size a :=
  Fin.forall_fin_two.mpr ⟨h, Nat.le_refl 512⟩

theorem inb3 {N n : ℕ} {s : Fin 4} {o : ℕ} (h : o + n ≤ N) :
    ∀ a, (![s.val, o, 0] : Fin 3 → ℕ) a + (⟨3, ![1, n, 512]⟩ : Shape).size a ≤ (⟨3, ![4, N, 512]⟩ : Shape).size a :=
  fun a => by fin_cases a; exacts [s.isLt, h, Nat.le_refl 512]

theorem inb4 {J N n : ℕ} {s : Fin 4} {j : Fin J} {o : ℕ} (h : o + n ≤ N) :
    ∀ a, (![s.val, j.val, o, 0] : Fin 4 → ℕ) a + (⟨4, ![1, 1, n, 512]⟩ : Shape).size a
      ≤ (⟨4, ![4, J, N, 512]⟩ : Shape).size a :=
  fun a => by fin_cases a; exacts [s.isLt, j.isLt, h, Nat.le_refl 512]

theorem sq3 (n : ℕ) : (⟨3, ![1, n, 512]⟩ : Shape).Squeezes (SR n) := by
  simp [Shape.Squeezes, Shape.dropsOnes, List.ofFn_succ]
theorem sq4 (n : ℕ) : (⟨4, ![1, 1, n, 512]⟩ : Shape).Squeezes (SR n) := by
  simp [Shape.Squeezes, Shape.dropsOnes, List.ofFn_succ]

/-- Rows `o ..` of a buffer of `N` rows. -/
abbrev win2 {N : ℕ} {e : EltTy} (b : Memref sig .tc .vmem (SR N) e) (o n : ℕ) (h : o + n ≤ N) : Memref sig .tc .vmem (SR n) e :=
  b.slice (Rect.unit (s := SR N) ![o, 0] (SR n).size (inb2 h)) (fun _ => rfl)
/-- Rows `o ..` of slab `s`. -/
abbrev win3 {N : ℕ} {e : EltTy} (b : Memref sig .tc .vmem ⟨3, ![4, N, 512]⟩ e) (s : Fin 4) (o n : ℕ) (h : o + n ≤ N) :
    Memref sig .tc .vmem (SR n) e :=
  (b.slice (Rect.unit (s := ⟨3, ![4, N, 512]⟩) ![s.val, o, 0] (⟨3, ![1, n, 512]⟩ : Shape).size (inb3 h)) (fun _ => rfl)).squeeze
    (SR n) (sq3 n)
/-- Rows `o ..` of slab `s`, `j`. -/
abbrev win4 {J N : ℕ} {e : EltTy} (b : Memref sig .tc .vmem ⟨4, ![4, J, N, 512]⟩ e) (s : Fin 4) (j : Fin J) (o n : ℕ)
    (h : o + n ≤ N) : Memref sig .tc .vmem (SR n) e :=
  (b.slice (Rect.unit (s := ⟨4, ![4, J, N, 512]⟩) ![s.val, j.val, o, 0] (⟨4, ![1, 1, n, 512]⟩ : Shape).size (inb4 h))
    (fun _ => rfl)).squeeze (SR n) (sq4 n)

/-! ## What a copy moves -/

/-- How many rows of 512. -/
abbrev rows : Tr → ℕ
  | .X _ => 256
  | .I _ _ | .C _ _ _ => 192
  | .E false _ => 128
  | .E true _ | .M _ _ _ | .Z _ => 64

/-- The first row, within what hop 2 brought, of the part the last hop carries. -/
abbrev eOff : Bool → Dev nD → ℕ
  | false, c => k0_off11 c 2
  | true, c => k0_off12 c 2
/-- The first row, within what a hop brought, of the part copied to the x peer. -/
abbrev mOff (c : Dev nD) : ℕ := k0_off6 c 2
/-- The first row, within what the last hop brought, of the part copied to the x peer. -/
abbrev zOff (c : Dev nD) : ℕ := k0_off21 c 2

theorem eOff_eq (c : Dev nD) : ∀ d, eOff d c = if d then 128 - 128 * (c.val / 8) else 64 * (c.val / 8)
  | false => congrFun (k0_off11_eq c) 2
  | true => congrFun (k0_off12_eq c) 2
theorem mOff_eq (c : Dev nD) : mOff c = 128 * (c.val / 8) := congrFun (k0_off6_eq c) 2
theorem zOff_eq (c : Dev nD) : zOff c = 64 * (c.val / 8) := congrFun (k0_off21_eq c) 2

theorem x_le (c : Dev nD) : c.val / 8 ≤ 1 := by have : c.val < 16 := c.isLt; omega

/-- How many rows the last hop carries. -/
abbrev eRows : Bool → ℕ
  | false => 128
  | true => 64

theorem eOff_le (d : Bool) (c : Dev nD) : eOff d c + eRows d ≤ 192 := by
  have := x_le c; rw [eOff_eq]; cases d <;> simp [eRows] <;> omega
theorem mOff_le (c : Dev nD) : mOff c + 64 ≤ 192 := by have := x_le c; rw [mOff_eq]; omega
theorem zOff_le (c : Dev nD) : zOff c + 64 ≤ 192 := by have := x_le c; rw [zOff_eq]; omega
theorem blk_le (s : Fin 4) : 256 * s.val + 256 ≤ 1024 := by omega
theorem eRows_le (d : Bool) : 0 + eRows d ≤ 192 := by cases d <;> decide

/-- The mirror slot of hop `h` in direction `d`. -/
abbrev mSlot (d : Bool) (h : Fin 3) : Fin 7 := ⟨2 * h.val + cond d 1 0, by cases d <;> simp <;> omega⟩
/-- The ring slot before hop `h` (of the middle hops), and the one it fills. -/
abbrev cFrom (h : Fin 2) : Fin 4 := ⟨h.val, by omega⟩
abbrev cTo (h : Fin 2) : Fin 4 := ⟨h.val + 1, by omega⟩
abbrev h4 (h : Fin 3) : Fin 4 := ⟨h.val, by omega⟩

theorem rows_def (t : Tr) : rows t = match t with
    | .X _ => 256 | .I _ _ | .C _ _ _ => 192 | .E d _ => eRows d | .M _ _ _ | .Z _ => 64 := by
  cases t <;> first | rfl | (rename_i d _; cases d <;> rfl)

/-- What a copy reads. -/
abbrev src : (t : Tr) → (c : Dev nD) → Memref sig .tc .vmem (SR (rows t)) .bf16
  | .X s, _ => win2 (N := 1024) bXs (256 * s.val) 256 (blk_le s)
  | .I _ s, _ => win3 (N := 192) bOwn s 0 192 (Nat.le_refl 192)
  | .C d s h, _ => win4 (J := 4) (N := 192) (bRing d) s (cFrom h) 0 192 (Nat.le_refl 192)
  | .E false s, c => win4 (J := 4) (N := 192) (bRing false) s 2 (eOff false c) 128 (eOff_le false c)
  | .E true s, c => win4 (J := 4) (N := 192) (bRing true) s 2 (eOff true c) 64 (eOff_le true c)
  | .M d s h, c => win4 (J := 4) (N := 192) (bRing d) s (h4 h) (mOff c) 64 (mOff_le c)
  | .Z s, c => win4 (J := 4) (N := 192) (bRing false) s 3 (zOff c) 64 (zOff_le c)

/-- What a copy writes, on the device it goes to. -/
abbrev dst : (t : Tr) → Memref sig .tc .vmem (SR (rows t)) .bf16
  | .X s => win2 (N := 1024) bXr (256 * s.val) 256 (blk_le s)
  | .I d s => win4 (J := 4) (N := 192) (bRing d) s 0 0 192 (Nat.le_refl 192)
  | .C d s h => win4 (J := 4) (N := 192) (bRing d) s (cTo h) 0 192 (Nat.le_refl 192)
  | .E false s => win4 (J := 4) (N := 192) (bRing false) s 3 0 128 (eRows_le false)
  | .E true s => win4 (J := 4) (N := 192) (bRing true) s 3 0 64 (eRows_le true)
  | .M d s h => win4 (J := 7) (N := 64) bM s (mSlot d h) 0 64 (Nat.le_refl 64)
  | .Z s => win4 (J := 7) (N := 64) bM s 6 0 64 (Nat.le_refl 64)

/-! ## The semaphores -/

/-- Entry `i`, `j` of a table of DMA semaphores. -/
abbrev semAt {I J : ℕ} (a : DmaSems sig ⟨2, ![I, J]⟩) (i : Fin I) (j : Fin J) : DmaSem sig :=
  ((a.slice (Rect.unit (s := ⟨2, ![I, J]⟩) ![i.val, j.val] S1x1.size (Fin.forall_fin_two.mpr ⟨i.isLt, j.isLt⟩))).squeeze S_
    squeezes_S1x1_S_).sem

abbrev loadSem (k : Fin 3) : DmaSem sig :=
  (((show DmaSems sig S3 from cc0_scratch10).slice (Rect.unit (s := S3) ![k.val] S1.size (Fin.forall_fin_one.mpr k.isLt))).squeeze S_
    squeezes_S1_S_).sem

/-- Semaphore `h` of sub-block `s` of the sends of ring direction `d`, and of the receives. -/
abbrev ringSnd (d : Bool) (s h : Fin 4) : DmaSem sig :=
  match d with
  | false => semAt (I := 4) (J := 4) cc0_scratch11 s h
  | true => semAt (I := 4) (J := 4) cc0_scratch13 s h
abbrev ringRcv (d : Bool) (s h : Fin 4) : DmaSem sig :=
  match d with
  | false => semAt (I := 4) (J := 4) cc0_scratch12 s h
  | true => semAt (I := 4) (J := 4) cc0_scratch14 s h

abbrev sndSem : Tr → DmaSem sig
  | .X s => semAt (I := 4) (J := 2) cc0_scratch15 s 0
  | .I d s => ringSnd d s 0
  | .C d s h => ringSnd d s (cTo h)
  | .E d s => ringSnd d s 3
  | .M d s h => semAt (I := 4) (J := 7) cc0_scratch16 s (mSlot d h)
  | .Z s => semAt (I := 4) (J := 7) cc0_scratch16 s 6
abbrev rcvSem : Tr → DmaSem sig
  | .X s => semAt (I := 4) (J := 2) cc0_scratch15 s 1
  | .I d s => ringRcv d s 0
  | .C d s h => ringRcv d s (cTo h)
  | .E d s => ringRcv d s 3
  | .M d s h => semAt (I := 4) (J := 7) cc0_scratch17 s (mSlot d h)
  | .Z s => semAt (I := 4) (J := 7) cc0_scratch17 s 6

/-- The runtime's barrier semaphore. -/
abbrev barS : Sem sig := (SemArray.scalar (sig.barrier 0 rfl) : Sems sig S_).sem

/-! ## Evidence that windows are whole words -/

theorem words2 {N o n : ℕ} (h : o + n ≤ N) (ho : 2 ∣ o) (hn : 2 ∣ n) :
    (Rect.unit (s := SR N) ![o, 0] (SR n).size (inb2 h)).PackedRows (EltTy.packing .bf16) :=
  .inr ⟨Nat.le_refl 2, rfl, .inl ⟨ho, hn⟩⟩
theorem words3 {N o n : ℕ} {s : Fin 4} (h : o + n ≤ N) (ho : 2 ∣ o) (hn : 2 ∣ n) :
    (Rect.unit (s := ⟨3, ![4, N, 512]⟩) ![s.val, o, 0] (⟨3, ![1, n, 512]⟩ : Shape).size (inb3 h)).PackedRows (EltTy.packing .bf16) :=
  .inr ⟨(Nat.le_of_ble_eq_true rfl : 2 ≤ 3), rfl, .inl ⟨ho, hn⟩⟩
theorem words4 {J N o n : ℕ} {s : Fin 4} {j : Fin J} (h : o + n ≤ N) (ho : 2 ∣ o) (hn : 2 ∣ n) :
    (Rect.unit (s := ⟨4, ![4, J, N, 512]⟩) ![s.val, j.val, o, 0] (⟨4, ![1, 1, n, 512]⟩ : Shape).size (inb4 h)).PackedRows
      (EltTy.packing .bf16) :=
  .inr ⟨(Nat.le_of_ble_eq_true rfl : 2 ≤ 4), rfl, .inl ⟨ho, hn⟩⟩

theorem we2 {N o n : ℕ} (b : Memref sig .tc .vmem (SR N) .bf16) (hb : b.IsWhole) (h : o + n ≤ N) (ho : 2 ∣ o) (hn : 2 ∣ n) :
    (win2 b o n h).view.WordExact := hb.wordExact_slice rfl _ (words2 h ho hn).wholeWords
theorem we3 {N o n : ℕ} (b : Memref sig .tc .vmem ⟨3, ![4, N, 512]⟩ .bf16) (hb : b.IsWhole) (s : Fin 4) (h : o + n ≤ N)
    (ho : 2 ∣ o) (hn : 2 ∣ n) : (win3 b s o n h).view.WordExact :=
  (hb.wordExact_slice rfl _ (words3 h ho hn).wholeWords).reshape _ _
theorem we4 {J N o n : ℕ} (b : Memref sig .tc .vmem ⟨4, ![4, J, N, 512]⟩ .bf16) (hb : b.IsWhole) (s : Fin 4) (j : Fin J)
    (h : o + n ≤ N) (ho : 2 ∣ o) (hn : 2 ∣ n) : (win4 b s j o n h).view.WordExact :=
  (hb.wordExact_slice rfl _ (words4 h ho hn).wholeWords).reshape _ _

theorem eOff_even (d : Bool) (c : Dev nD) : 2 ∣ eOff d c := by rw [eOff_eq]; cases d <;> simp <;> omega
theorem mOff_even (c : Dev nD) : 2 ∣ mOff c := by rw [mOff_eq]; omega
theorem zOff_even (c : Dev nD) : 2 ∣ zOff c := by rw [zOff_eq]; omega

theorem src_exact : ∀ (t : Tr) (c : Dev nD), (src t c).view.WordExact
  | .X s, _ => we2 (N := 1024) bXs (Memref.isWhole_whole _) (blk_le s) (by omega) (by decide)
  | .I _ s, _ => we3 (N := 192) bOwn (Memref.isWhole_whole _) s (Nat.le_refl 192) (by decide) (by decide)
  | .C d s h, _ => we4 (J := 4) (N := 192) (bRing d) (wRing d) s (cFrom h) (Nat.le_refl 192) (by decide) (by decide)
  | .E false s, c => we4 (J := 4) (N := 192) (bRing false) (wRing false) s 2 (eOff_le false c) (eOff_even _ c) (by decide)
  | .E true s, c => we4 (J := 4) (N := 192) (bRing true) (wRing true) s 2 (eOff_le true c) (eOff_even _ c) (by decide)
  | .M d s h, c => we4 (J := 4) (N := 192) (bRing d) (wRing d) s (h4 h) (mOff_le c) (mOff_even c) (by decide)
  | .Z s, c => we4 (J := 4) (N := 192) (bRing false) (wRing false) s 3 (zOff_le c) (zOff_even c) (by decide)
theorem dst_exact : ∀ t : Tr, (dst t).view.WordExact
  | .X s => we2 (N := 1024) bXr (Memref.isWhole_whole _) (blk_le s) (by omega) (by decide)
  | .I d s => we4 (J := 4) (N := 192) (bRing d) (wRing d) s 0 (Nat.le_refl 192) (by decide) (by decide)
  | .C d s h => we4 (J := 4) (N := 192) (bRing d) (wRing d) s (cTo h) (Nat.le_refl 192) (by decide) (by decide)
  | .E false s => we4 (J := 4) (N := 192) (bRing false) (wRing false) s 3 (eRows_le false) (by decide) (by decide)
  | .E true s => we4 (J := 4) (N := 192) (bRing true) (wRing true) s 3 (eRows_le true) (by decide) (by decide)
  | .M d s h => we4 (J := 7) (N := 64) bM (Memref.isWhole_whole _) s (mSlot d h) (Nat.le_refl 64) (by decide) (by decide)
  | .Z s => we4 (J := 7) (N := 64) bM (Memref.isWhole_whole _) s 6 (Nat.le_refl 64) (by decide) (by decide)

/-! ## Pieces of the result -/

/-- A piece of the result, as the kernel stores it: the own sub-block (`fin`), what a hop brought (`put`, the last
    hop's `putE`), and what came from the x peer of a hop (`putM`, of the last hop `putZ`). -/
inductive Pc where
  | fin (s : Fin 4)
  | put (d : Bool) (s : Fin 4) (h : Fin 3)
  | putE (d : Bool) (s : Fin 4)
  | putM (d : Bool) (s : Fin 4) (h : Fin 3)
  | putZ (s : Fin 4)
deriving DecidableEq

abbrev pRows : Pc → ℕ
  | .fin _ => 256
  | .put _ _ _ => 192
  | .putE false _ => 128
  | .putE true _ | .putM _ _ _ | .putZ _ => 64

abbrev w256 (s : Fin 4) : BitVec 32 := BitVec.ofNat 32 (256 * s.val)

/-- Where a piece lies in the result. -/
abbrev pOff : Pc → Dev nD → Fin 2 → ℕ
  | .fin s, c => k0_off2 c (w256 s)
  | .put false s h, c => k0_off4 c (BitVec.ofNat 32 h.val) (w256 s)
  | .put true s h, c => k0_off5 c (BitVec.ofNat 32 h.val) (w256 s)
  | .putE false s, c => k0_off19 c (w256 s)
  | .putE true s, c => k0_off20 c (w256 s)
  | .putM false s h, c => k0_off32 c (BitVec.ofNat 32 h.val) (w256 s)
  | .putM true s h, c => k0_off33 c (BitVec.ofNat 32 h.val) (w256 s)
  | .putZ s, c => k0_off34 c (w256 s)

theorem pInb : ∀ (p : Pc) (c : Dev nD), ∀ a, pOff p c a + (SR (pRows p)).size a ≤ S2048x2048.size a
  | .fin s, c => k0_off2_inb c s
  | .put false s h, c => k0_off4_inb c h s
  | .put true s h, c => k0_off5_inb c h s
  | .putE false s, c => k0_off19_inb c s
  | .putE true s, c => k0_off20_inb c s
  | .putM false s h, c => k0_off32_inb c h s
  | .putM true s h, c => k0_off33_inb c h s
  | .putZ s, c => k0_off34_inb c s

abbrev pRect (p : Pc) (c : Dev nD) : Rect S2048x2048 := Rect.unit (s := S2048x2048) (pOff p c) (SR (pRows p)).size (pInb p c)

theorem pPacked : ∀ (p : Pc) (c : Dev nD), (pRect p c).PackedRows (EltTy.packing .bf16)
  | .fin s, c => k0_off2_packedbf16 c s
  | .put false s h, c => k0_off4_packedbf16 c h s
  | .put true s h, c => k0_off5_packedbf16 c h s
  | .putE false s, c => k0_off19_packedbf16 c s
  | .putE true s, c => k0_off20_packedbf16 c s
  | .putM false s h, c => k0_off32_packedbf16 c h s
  | .putM true s h, c => k0_off33_packedbf16 c h s
  | .putZ s, c => k0_off34_packedbf16 c s

theorem numel2 (n : ℕ) (h : 0 < n) : 0 < (SR n).numel := by simp [Shape.numel, Fin.prod_univ_succ, h]
theorem numel4 (n : ℕ) (h : 0 < n) : 0 < (⟨4, ![1, 1, n, 512]⟩ : Shape).numel := by simp [Shape.numel, Fin.prod_univ_succ, h]
theorem rows_pos : ∀ t : Tr, 0 < rows t
  | .X _ | .I _ _ | .C _ _ _ | .E false _ | .E true _ | .M _ _ _ | .Z _ => Nat.succ_pos _
theorem pRows_pos : ∀ p : Pc, 0 < pRows p
  | .fin _ | .put _ _ _ | .putE false _ | .putE true _ | .putM _ _ _ | .putZ _ => Nat.succ_pos _

/-! ## Staged chunks -/

theorem ckW_inb : ∀ (c : Dev nD) (i : Fin 4), ∀ a,
    (k0_off1 c 1#32 4#32 512#32 (BitVec.ofNat 32 (128 * i.val))) a + S128x8192.size a ≤ S2048x8192.size a := by decide +kernel
theorem ckD_inb : ∀ (c : Dev nD) (i : Fin 8), ∀ a,
    (k0_off1 c 4#32 2#32 1024#32 (BitVec.ofNat 32 (128 * i.val))) a + S128x8192.size a ≤ S2048x8192.size a := by decide +kernel

/-- The slot of the staging buffer a chunk goes through. -/
abbrev ckSlot : Ck → Fin 3
  | .W i => ⟨i.val % 3, Nat.mod_lt _ (by decide)⟩
  | .D i => ⟨(i.val + 4) % 3, Nat.mod_lt _ (by decide)⟩

/-- The rows of the argument a chunk is. -/
abbrev ckSrc : Ck → Dev nD → Memref sig .tc .hbm S128x8192 .f32
  | .W i, c => bB.slice (Rect.unit (s := S2048x8192) (k0_off1 c 1#32 4#32 512#32 (BitVec.ofNat 32 (128 * i.val))) S128x8192.size
      (ckW_inb c i)) (fun _ => rfl)
  | .D i, c => bA.slice (Rect.unit (s := S2048x8192) (k0_off1 c 4#32 2#32 1024#32 (BitVec.ofNat 32 (128 * i.val))) S128x8192.size
      (ckD_inb c i)) (fun _ => rfl)

theorem stg_inb (k : Fin 3) : ∀ a, (![k.val, 0, 0] : Fin 3 → ℕ) a + S1x128x8192.size a ≤ S3x128x8192.size a := by
  revert k; decide
abbrev stgRect (k : Fin 3) : Rect S3x128x8192 := Rect.unit (s := S3x128x8192) ![k.val, 0, 0] S1x128x8192.size (stg_inb k)

/-- Slot `k` of the staging buffer. -/
abbrev stgAt (k : Fin 3) : Memref sig .tc .vmem S128x8192 .f32 :=
  (bStg.slice (stgRect k) (fun _ => rfl)).squeeze S128x8192 squeezes_S1x128x8192_S128x8192

theorem wRow_inb (i : Fin 4) : ∀ a, (![128 * i.val, 0] : Fin 2 → ℕ) a + S128x8192.size a ≤ S512x8192.size a := by
  revert i; decide
theorem dRow_inb (i : Fin 8) : ∀ a, (![128 * i.val, 0] : Fin 2 → ℕ) a + S128x8192.size a ≤ S1024x8192.size a := by
  revert i; decide
abbrev wRect (i : Fin 4) : Rect S512x8192 := Rect.unit (s := S512x8192) ![128 * i.val, 0] S128x8192.size (wRow_inb i)
abbrev dRect (i : Fin 8) : Rect S1024x8192 := Rect.unit (s := S1024x8192) ![128 * i.val, 0] S128x8192.size (dRow_inb i)
theorem wRow_packed : ∀ i : Fin 4, (wRect i).PackedRows (EltTy.packing .bf16) := by decide
theorem dRow_packed : ∀ i : Fin 8, (dRect i).PackedRows (EltTy.packing .bf16) := by decide

theorem gRow_inb (s : Fin 4) : ∀ a, (![256 * s.val, 0] : Fin 2 → ℕ) a + S256x8192.size a ≤ S1024x8192.size a := by
  revert s; decide
abbrev gRect (s : Fin 4) : Rect S1024x8192 := Rect.unit (s := S1024x8192) ![256 * s.val, 0] S256x8192.size (gRow_inb s)
/-- Rows of sub-block `s`. -/
abbrev bRect (s : Fin 4) : Rect S1024x512 := Rect.unit (s := SR 1024) ![256 * s.val, 0] (SR 256).size (inb2 (blk_le s))
/-- The rows of sub-block `s` the device sends around the ring. -/
abbrev oRect (c : Dev nD) (s : Fin 4) : Rect S1024x512 :=
  Rect.unit (s := S1024x512) (k0_off3 c (w256 s)) S192x512.size (k0_off3_inb c s)
abbrev ownRect (s : Fin 4) : Rect S4x192x512 :=
  Rect.unit (s := S4x192x512) ![s.val, 0, 0] S1x192x512.size (inb3 (N := 192) (n := 192) (Nat.le_refl 192))

/-! ## The instructions -/

inductive Ins where
  | ldS (q : Ck)
  | ldF (q : Ck)
  | gem (s : Fin 4)
  | xst (s : Fin 4)
  | bar
  | snd (t : Tr)
  | rcv (t : Tr)
  | swt (t : Tr)
  | own (s : Fin 4)
  | piece (p : Pc)
deriving DecidableEq

abbrev KProg (F : FTy → Type) : Type 1 := Prog (TpuEff nD τ sig (Elt F) Λ₀ .tc) PUnit

/-- Store a piece of the result (after a load of the place whose value is not used). -/
def stOut (c : Dev nD) (p : Pc) (v : FVec F (SR (pRows p)) .bf16) (k : KProg F) : KProg F :=
  Prog.op (.load bOut (pRect p c).toLoadRect (View.loadsAt_vmem (numel2 _ (pRows_pos p)))) fun _ =>
  Prog.op (.store bOut (pRect p c) v Finset.univ (View.stores_vmem (numel2 _ (pRows_pos p))
    ((Memref.isWhole_whole _).storeExact_slice rfl _ (pPacked p c)) (fun _ => rfl)) (.inl rfl)) fun _ => k

/-- Read rows of a slab, as rows of 512. -/
def ld4 {J N : ℕ} (b : Memref sig .tc .vmem ⟨4, ![4, J, N, 512]⟩ .bf16) (s : Fin 4) (j : Fin J) (n : ℕ) (hn : 0 < n) (h : 0 + n ≤ N)
    (k : FVec F (SR n) .bf16 → KProg F) : KProg F :=
  Prog.op (.load b (Rect.unit (s := ⟨4, ![4, J, N, 512]⟩) ![s.val, j.val, 0, 0] (⟨4, ![1, 1, n, 512]⟩ : Shape).size (inb4 h)).toLoadRect
    (View.loadsAt_vmem (numel4 n hn))) fun v => k (shapeCast (SR n) v (sq4 n).numel_eq)

/-- The operations of one piece of the result. -/
def execPiece (c : Dev nD) : Pc → KProg F → KProg F
  | .fin s, k =>
    Prog.op (.load bAcc (bRect s).toLoadRect (View.loadsAt_vmem h_S256x512)) fun v =>
    Prog.op (.load bXr (bRect s).toLoadRect (View.loadsAt_vmem h_S256x512)) fun w =>
    stOut c (.fin s) (k0_pay14 v w) k
  | .put d s h, k => ld4 (J := 4) (N := 192) (bRing d) s (h4 h) 192 (by decide) (by decide) fun v => stOut c (.put d s h) v k
  | .putE false s, k => ld4 (J := 4) (N := 192) (bRing false) s 3 128 (by decide) (by decide) fun v => stOut c (.putE false s) v k
  | .putE true s, k => ld4 (J := 4) (N := 192) (bRing true) s 3 64 (by decide) (by decide) fun v => stOut c (.putE true s) v k
  | .putM d s h, k => ld4 (J := 7) (N := 64) bM s (mSlot d h) 64 (by decide) (by decide) fun v => stOut c (.putM d s h) v k
  | .putZ s, k => ld4 (J := 7) (N := 64) bM s 6 64 (by decide) (by decide) fun v => stOut c (.putZ s) v k

/-- One instruction, before what follows it. -/
def exec (c : Dev nD) : Ins → KProg F → KProg F
  | .ldS q, k => Prog.op (.enqueueDma (ckSrc q c) (.here (stgAt (ckSlot q))) (.dma (loadSem (ckSlot q)))
      (View.wordExact_bits rfl) ((View.wordExact_bits rfl).reshape _ _) ⟨Or.inl rfl, trivial⟩) fun _ => k
  | .ldF (.W i), k =>
    Prog.op (.waitDma2 (loadSem (ckSlot (.W i))) (ckSrc (.W i) c) (stgAt (ckSlot (.W i))) (View.wordExact_bits rfl)
      ((View.wordExact_bits rfl).reshape _ _)) fun _ =>
    Prog.op (.load bStg (stgRect (ckSlot (.W i))).toLoadRect (View.loadsAt_vmem h_S1x128x8192)) fun v =>
    Prog.op (.load bW (wRect i).toLoadRect (View.loadsAt_vmem h_S128x8192)) fun _ =>
    Prog.op (.store bW (wRect i) (k0_pay2 v) Finset.univ (View.stores_vmem h_S128x8192
      ((Memref.isWhole_whole _).storeExact_slice rfl _ (wRow_packed i)) (fun _ => rfl)) (.inl rfl)) fun _ => k
  | .ldF (.D i), k =>
    Prog.op (.waitDma2 (loadSem (ckSlot (.D i))) (ckSrc (.D i) c) (stgAt (ckSlot (.D i))) (View.wordExact_bits rfl)
      ((View.wordExact_bits rfl).reshape _ _)) fun _ =>
    Prog.op (.load bStg (stgRect (ckSlot (.D i))).toLoadRect (View.loadsAt_vmem h_S1x128x8192)) fun v =>
    Prog.op (.load bD (dRect i).toLoadRect (View.loadsAt_vmem h_S128x8192)) fun _ =>
    Prog.op (.store bD (dRect i) (k0_pay2 v) Finset.univ (View.stores_vmem h_S128x8192
      ((Memref.isWhole_whole _).storeExact_slice rfl _ (dRow_packed i)) (fun _ => rfl)) (.inl rfl)) fun _ => k
  | .gem s, k =>
    Prog.op (.load bD (gRect s).toLoadRect (View.loadsAt_vmem h_S256x8192)) fun v =>
    Prog.op (.load bW (Rect.unit (s := S512x8192) ![0, 0] S512x8192.size inb_S512x8192_S512x8192_0_0).toLoadRect
      (View.loadsAt_vmem h_S512x8192)) fun w =>
    Prog.op (.load bAcc (bRect s).toLoadRect (View.loadsAt_vmem h_S256x512)) fun _ =>
    Prog.op (.store bAcc (bRect s) (k0_pay8 v w) Finset.univ (View.stores_vmem_bits_univ h_S256x512 rfl) (.inl rfl)) fun _ => k
  | .xst s, k =>
    Prog.op (.load bAcc (bRect s).toLoadRect (View.loadsAt_vmem h_S256x512)) fun v =>
    Prog.op (.load bXs (bRect s).toLoadRect (View.loadsAt_vmem h_S256x512)) fun _ =>
    Prog.op (.store bXs (bRect s) (k0_pay9 v) Finset.univ (View.stores_vmem h_S256x512
      ((Memref.isWhole_whole _).storeExact_slice rfl _ (words2 (N := 1024) (blk_le s) (by omega) (by decide))) (fun _ => rfl))
      (.inl rfl)) fun _ => k
  | .bar, k =>
    Prog.op (.semSignal (xpeer c, .tc) barS 1) fun _ =>
    Prog.op (.semSignal (nxt c, .tc) barS 1) fun _ =>
    Prog.op (.semSignal (prv c, .tc) barS 1) fun _ =>
    Prog.op (.semWait barS 3) fun _ => k
  | .snd t, k => Prog.op (.enqueueDma (src t c) (.remote (Dev.tc (peer t c)) (dst t) (.dma (sndSem t))) (.dma (rcvSem t))
      (src_exact t c) (dst_exact t) ⟨⟨rfl, Or.inl rfl⟩, trivial⟩) fun _ => k
  | .rcv t, k => Prog.op (.waitDma2 (rcvSem t) (src t c) (dst t) (src_exact t c) (dst_exact t)) fun _ => k
  | .swt t, k => Prog.op (.waitDma2 (sndSem t) (dst t) (src t c) (dst_exact t) (src_exact t c)) fun _ => k
  | .own s, k =>
    Prog.op (.load bAcc (oRect c s).toLoadRect (View.loadsAt_vmem h_S192x512)) fun v =>
    Prog.op (.load bXr (oRect c s).toLoadRect (View.loadsAt_vmem h_S192x512)) fun w =>
    Prog.op (.load bOwn (ownRect s).toLoadRect (View.loadsAt_vmem h_S1x192x512)) fun _ =>
    Prog.op (.store bOwn (ownRect s) (k0_pay15 v w) Finset.univ (View.stores_vmem h_S1x192x512
      ((Memref.isWhole_whole _).storeExact_slice rfl _ (words3 (N := 192) (n := 192) (Nat.le_refl 192) (by decide) (by decide)))
      (fun _ => rfl)) (.inl rfl)) fun _ => k
  | .piece p, k => execPiece c p k

/-- A list of instructions, before what follows it. -/
def compile (c : Dev nD) : List Ins → KProg F → KProg F
  | [], k => k
  | i :: l, k => exec c i (compile c l k)

theorem compile_append (c : Dev nD) (l l' : List Ins) (k : KProg F) :
    compile c (l ++ l') k = compile c l (compile c l' k) := by
  induction l with
  | nil => rfl
  | cons i l ih => exact congrArg (exec c i) ih

/-! ## The body -/

open Ins Ck

/-- The ring copy that fills slot `h`. -/
abbrev ring (d : Bool) (s : Fin 4) : Fin 4 → Tr
  | 0 => .I d s
  | 1 => .C d s 0
  | 2 => .C d s 1
  | 3 => .E d s

/-- Take in what hop `h < 3` of sub-block `s` brought: send it on both ways, store it, copy it to the x peer. -/
abbrev adv (s : Fin 4) (h : Fin 3) : List Ins :=
  [rcv (ring false s (h4 h)), rcv (ring true s (h4 h)), snd (ring false s ⟨h.val + 1, by omega⟩), snd (ring true s ⟨h.val + 1, by omega⟩),
   piece (.put false s h), piece (.put true s h), snd (.M false s h), snd (.M true s h)]
/-- Take in what the last hop of sub-block `s` brought. -/
abbrev advE (s : Fin 4) : List Ins :=
  [rcv (.E false s), rcv (.E true s), piece (.putE false s), piece (.putE true s), snd (.Z s)]
/-- Take in the x peer's part of sub-block `s`, store the sum, and send it around the ring. -/
abbrev redu (s : Fin 4) : List Ins :=
  [rcv (.X s), piece (.fin s), own s, snd (.I false s), snd (.I true s)]
abbrev swtR (s h : Fin 4) : List Ins := [swt (ring false s h), swt (ring true s h)]
abbrev endM (s : Fin 4) (h : Fin 3) : List Ins := [swt (.M false s h), rcv (.M false s h), swt (.M true s h), rcv (.M true s h)]
abbrev endZ (s : Fin 4) : List Ins := [swt (.Z s), rcv (.Z s)]
abbrev fins (s : Fin 4) : List Ins :=
  [piece (.putM false s 0), piece (.putM true s 0), piece (.putM false s 1), piece (.putM true s 1),
   piece (.putM false s 2), piece (.putM true s 2), piece (.putZ s)]

/-- The first part: stage, reduce and send the sub-blocks. -/
abbrev phaseA : List Ins :=
  [ldS (W 0), ldS (W 1), ldS (W 2), ldF (W 0), ldS (W 3), ldF (W 1), ldS (D 0), ldF (W 2), ldS (D 1), ldF (W 3), ldS (D 2),
   ldF (D 0), ldS (D 3), ldF (D 1), ldS (D 4), gem 0, bar, xst 0, snd (.X 0),
   ldF (D 2), ldS (D 5), ldF (D 3), ldS (D 6), gem 1, xst 1, snd (.X 1)] ++ redu 0 ++
  [ldF (D 4), ldS (D 7), ldF (D 5), gem 2, xst 2, snd (.X 2), ldF (D 6), ldF (D 7), gem 3, xst 3, snd (.X 3)] ++ redu 1
/-- The second part: the hops of the ring, four sub-blocks pipelined. -/
abbrev phaseB : List Ins :=
  adv 0 0 ++ redu 2 ++ adv 1 0 ++ adv 0 1 ++ redu 3 ++ adv 2 0 ++ adv 1 1 ++ adv 0 2 ++ adv 3 0 ++ adv 2 1 ++ adv 1 2 ++ advE 0 ++
  adv 3 1 ++ adv 2 2 ++ advE 1 ++ adv 3 2 ++ advE 2 ++ advE 3
/-- The third part: wait for every send, take in what the x peer copied, store it. -/
abbrev phaseC : List Ins :=
  [swt (.X 0), swt (.X 1)] ++ swtR 0 0 ++ [swt (.X 2)] ++ swtR 1 0 ++ swtR 0 1 ++ [swt (.X 3)] ++ swtR 2 0 ++ swtR 1 1 ++ swtR 0 2 ++
  swtR 3 0 ++ swtR 2 1 ++ swtR 1 2 ++ swtR 0 3 ++ swtR 3 1 ++ swtR 2 2 ++ swtR 1 3 ++ swtR 3 2 ++ swtR 2 3 ++ swtR 3 3 ++
  endM 0 0 ++ endM 1 0 ++ endM 0 1 ++ endM 2 0 ++ endM 1 1 ++ endM 0 2 ++ endM 3 0 ++ endM 2 1 ++ endM 1 2 ++ endZ 0 ++ endM 3 1 ++
  endM 2 2 ++ endZ 1 ++ endM 3 2 ++ endZ 2 ++ endZ 3 ++ fins 0 ++ fins 1 ++ fins 2 ++ fins 3

/-- The instructions of the body. -/
abbrev theList : List Ins := phaseA ++ phaseB ++ phaseC

/-- The printed body is the list of instructions. -/
theorem body_eq (t : Fin cfg0.N) :
    bodyAt0 (F := F) t = Prog.op .deviceId fun c => compile c theList (Prog.ret ⟨⟩) := by
  obtain rfl := fin_N0 t
  unfold bodyAt0
  rw [cc0_body_eq_skeleton]
  chain_rfl

end Cert.AllReduce
-- ==== Proof.Common.lean ====
/-
What the copies carry and how they are synchronised.

The values that travel, the two pools of semaphores as cells of a rounds schedule with one round each, what a device
owes at launch and the levels that order the waits.
-/
module

public import proofs.«01_k».proof.Proof.Prog
public import Idealize.ShloMosaic.Lib.Rounds
public import Idealize.ShloMosaic.Lib.Transfers
public import Idealize.ShloMosaic.Lib.ValueIdxCore

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-! ## The ring -/

theorem prv_nxt : ∀ c : Dev nD, prv (nxt c) = c := by decide +kernel
theorem nxt_prv : ∀ c : Dev nD, nxt (prv c) = c := by decide +kernel
theorem xpeer_xpeer : ∀ c : Dev nD, xpeer (xpeer c) = c := by decide +kernel

/-- The device a copy comes from. -/
def frm : Tr → Dev nD → Dev nD
  | .X _, c => xpeer c
  | .I false _, c | .C false _ _, c | .E false _, c => prv c
  | .I true _, c | .C true _ _, c | .E true _, c => nxt c
  | .M _ _ _, c | .Z _, c => xpeer c
/-- The device before in direction `d`. -/
abbrev bwd (d : Bool) (c : Dev nD) : Dev nD := match d with | false => prv c | true => nxt c

theorem frm_peer : ∀ (t : Tr) (c : Dev nD), frm t (peer t c) = c
  | .X _, c | .M _ _ _, c | .Z _, c => xpeer_xpeer c
  | .I false _, c | .C false _ _, c | .E false _, c => prv_nxt c
  | .I true _, c | .C true _ _, c | .E true _, c => nxt_prv c
theorem peer_frm : ∀ (t : Tr) (c : Dev nD), peer t (frm t c) = c
  | .X _, c | .M _ _ _, c | .Z _, c => xpeer_xpeer c
  | .I false _, c | .C false _ _, c | .E false _, c => nxt_prv c
  | .I true _, c | .C true _ _, c | .E true _, c => prv_nxt c

/-- A copy's addressee, as a permutation of the devices. -/
def peerE (t : Tr) : Dev nD ≃ Dev nD := ⟨peer t, frm t, frm_peer t, peer_frm t⟩

/-- The device a barrier signal goes to, and the one it comes from. -/
def kp : Fin 3 → Dev nD → Dev nD
  | 0, c => xpeer c
  | 1, c => nxt c
  | 2, c => prv c
def kf : Fin 3 → Dev nD → Dev nD
  | 0, c => xpeer c
  | 1, c => prv c
  | 2, c => nxt c
theorem kf_kp (k : Fin 3) (c : Dev nD) : kf k (kp k c) = c := by
  fin_cases k; exacts [xpeer_xpeer c, prv_nxt c, nxt_prv c]
theorem kp_kf (k : Fin 3) (c : Dev nD) : kp k (kf k c) = c := by
  fin_cases k; exacts [xpeer_xpeer c, nxt_prv c, prv_nxt c]
def kpE (k : Fin 3) : Dev nD ≃ Dev nD := ⟨kp k, kf k, kf_kp k, kp_kf k⟩

/-- The signal that releases a copy's landing place. -/
def kind : Tr → Fin 3
  | .X _ | .M _ _ _ | .Z _ => 0
  | .I true _ | .C true _ _ | .E true _ => 1
  | .I false _ | .C false _ _ | .E false _ => 2
theorem kp_kind (t : Tr) (c : Dev nD) : kp (kind t) c = frm t c := by
  rcases t with s | ⟨_ | _, s⟩ | ⟨_ | _, s, h⟩ | ⟨_ | _, s⟩ | ⟨d, s, h⟩ | s <;> rfl

/-! ## The values that travel -/

section Values

variable (m : (ℓ : Loc nD τ sig) → Buf (Elt F) ℓ)

/-- A memref's buffer holding `v` under the memref and what memory `m` holds elsewhere. -/
def can {sp : Space} {s : Shape} {e : EltTy} (b : Memref sig .tc sp s e) (c : Dev nD) (v : s.Idx → Elt F e) :
    Buf (Elt F) (b.view.loc (c : Thread nD τ)) :=
  b.view.write (Elt F) (m (b.view.loc (c : Thread nD τ))) v Finset.univ

theorem read_can {sp : Space} {s : Shape} {e : EltTy} (b : Memref sig .tc sp s e) (c : Dev nD) (v : s.Idx → Elt F e) :
    b.view.read (Elt F) (can m b c v) = v := View.read_write_univ _ _

/-- Contents that read as `v` are those of `can` under the memref. -/
theorem can_congr {sp : Space} {s : Shape} {e : EltTy} (b : Memref sig .tc sp s e) (c : Dev nD) (v : s.Idx → Elt F e)
    (g : Buf (Elt F) (b.view.loc (c : Thread nD τ))) (h : b.view.read (Elt F) g = v) :
    ∀ i ∈ b.view.set, g i = can m b c v i := by
  intro i hi
  obtain ⟨x, -, rfl⟩ := Finset.mem_map.mp hi
  subst h
  unfold can
  rw [View.write_emb_of_mem _ _ (Finset.mem_univ x), View.read_apply, cast_cast, cast_eq]

/-- Rows `o ..` of a value of `N` rows. -/
def rsub {N n o : ℕ} {φ : FTy} (h : o + n ≤ N) (v : FVec F (SR N) φ) : FVec F (SR n) φ :=
  fun i => v ((Rect.unit (s := SR N) ![o, 0] (SR n).size (inb2 h)).emb i)

/-- A chunk of an argument, cast. -/
def CK (q : Ck) (c : Dev nD) : FVec F S128x8192 .bf16 :=
  shapeCast S128x8192 (truncf .bf16 ((ckSrc q c).view.read (Elt F) (m ((ckSrc q c).view.loc (c : Thread nD τ)))) bitsLt_bf16_f32)
    shapeCasts_S128x8192_S128x8192

/-- The device's rows of the weights and of the activations, cast. -/
def WB (c : Dev nD) : FVec F S512x8192 .bf16 := fun i =>
  CK m (.W ⟨(i 0).val / 128, by have : (i 0).val < 512 := (i 0).isLt; omega⟩) c
    (ValueIdx.ix2 ⟨(i 0).val % 128, Nat.mod_lt _ (by decide)⟩ (i 1))
def DB (c : Dev nD) : FVec F S1024x8192 .bf16 := fun i =>
  CK m (.D ⟨(i 0).val / 128, by have : (i 0).val < 1024 := (i 0).isLt; omega⟩) c
    (ValueIdx.ix2 ⟨(i 0).val % 128, Nat.mod_lt _ (by decide)⟩ (i 1))

/-- The device's product for sub-block `s`. -/
def ACC (c : Dev nD) (s : Fin 4) : FVec F (SR 256) .f32 :=
  k0_pay8 (bD.view.readAt (Elt F) (gRect s).toLoadRect (DB m c)) (WB m c)

theorem x_le64 (c : Dev nD) : 64 * (c.val / 8) + 192 ≤ 256 := by have := x_le c; omega

/-- The part of the sum the device sends around the ring. -/
def OWN (c : Dev nD) (s : Fin 4) : FVec F (SR 192) .bf16 :=
  shapeCast (SR 192) (k0_pay15 (rsub (x_le64 c) (ACC m c s)) (rsub (x_le64 c) (k0_pay9 (ACC m (xpeer c) s)))) (sq3 192).numel_eq

/-- What hop `h` of direction `d` brings. -/
def RG (d : Bool) (s : Fin 4) : ℕ → Dev nD → FVec F (SR 192) .bf16
  | 0, c => OWN m (bwd d c) s
  | h + 1, c => RG d s h (bwd d c)

/-- What a copy sends. -/
def SV : (t : Tr) → (c : Dev nD) → FVec F (SR (rows t)) .bf16
  | .X s, c => k0_pay9 (ACC m c s)
  | .I _ s, c => OWN m c s
  | .C d s h, c => RG m d s h.val c
  | .E false s, c => rsub (eOff_le false c) (RG m false s 2 c)
  | .E true s, c => rsub (eOff_le true c) (RG m true s 2 c)
  | .M d s h, c => rsub (mOff_le c) (RG m d s h.val c)
  | .Z s, c => rsub (N := 128) (n := 64) (o := zOff c) (by have := x_le c; rw [zOff_eq]; omega)
      (rsub (eOff_le false (prv c)) (RG m false s 2 (prv c)))

/-- What a copy brings. -/
def RV (t : Tr) (c : Dev nD) : FVec F (SR (rows t)) .bf16 := SV m t (frm t c)

theorem RV_peer (t : Tr) (c : Dev nD) : RV m t (peer t c) = SV m t c := by unfold RV; rw [frm_peer]

end Values

end Cert.AllReduce
-- ==== Proof.Sched.lean ====
/-
The rounds schedule of the semaphores the devices share, what a device owes, and the levels that order its waits.
-/
module

public import proofs.«01_k».proof.Proof.Common

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The kernel's shared semaphores: the barrier, and of each copy the send and the receive. -/
abbrev Cl : Type := Option (Bool × Tr)

/-- The send or the receive semaphore of a copy. -/
abbrev srSem : Bool × Tr → DmaSem sig
  | (false, t) => sndSem t
  | (true, t) => rcvSem t
abbrev csem : Cl → SemLoc sig
  | none => .reg barS
  | some p => .dma (srSem p)

/-- The kernel's scoped semaphores: three for the staging, and those of the copies. -/
abbrev osem : Fin 3 ⊕ (Bool × Tr) → SemLoc sig
  | .inl k => .dma (loadSem k)
  | .inr p => .dma (srSem p)

theorem ownSemFacts : Pipeline.OwnSemFacts cfg0.spec osem := by decide +kernel

theorem srSem_injective {p q : Bool × Tr} (h : srSem p = srSem q) : p = q :=
  Sum.inr_injective (ownSemFacts.inj (congrArg SemLoc.dma h))
theorem loadSem_ne (k : Fin 3) (p : Bool × Tr) : loadSem k ≠ srSem p := fun h =>
  Sum.inl_ne_inr (ownSemFacts.inj (a₁ := .inl k) (a₂ := .inr p) (congrArg SemLoc.dma h))

theorem csem_injective : Function.Injective csem
  | none, none, _ => rfl
  | none, some _, h => by cases h
  | some _, none, h => by cases h
  | some p, some q, h => congrArg some (srSem_injective (SemLoc.dma.inj h))

/-- Which of the shared semaphores a semaphore is, if one. -/
def tag (x : SemLoc sig) : Option Cl := Function.partialInv csem x
theorem tag_csem (k : Cl) : tag (csem k) = some k := Function.partialInv_left csem_injective k
theorem tag_load (k : Fin 3) : tag (.dma (loadSem k)) = none := by
  unfold tag Function.partialInv
  refine dif_neg ?_
  rintro ⟨_ | p, h⟩
  · cases h
  · exact loadSem_ne k p (SemLoc.dma.inj h).symm

abbrev barCell (c : Dev nD) : GSem nD τ sig := ((c : Thread nD τ), .reg barS)
abbrev sndCell (c : Dev nD) (t : Tr) : GSem nD τ sig := ((c : Thread nD τ), .dma (sndSem t))
abbrev rcvCell (c : Dev nD) (t : Tr) : GSem nD τ sig := ((c : Thread nD τ), .dma (rcvSem t))
abbrev kcell (ck : Dev nD × Cl) : GSem nD τ sig := ((ck.1 : Thread nD τ), csem ck.2)

theorem tag_bar : tag (.reg barS) = some none := tag_csem none
theorem tag_snd (t : Tr) : tag (.dma (sndSem t)) = some (some (false, t)) := tag_csem (some (false, t))
theorem tag_rcv (t : Tr) : tag (.dma (rcvSem t)) = some (some (true, t)) := tag_csem (some (true, t))

/-- What a copy credits. -/
abbrev crd (t : Tr) : ℕ := (dst t).view.dmaCredit
theorem numel_SR (n : ℕ) : (SR n).numel = n * 512 := by simp [Shape.numel, Fin.prod_univ_succ]
theorem crd_pos (t : Tr) : 0 < crd t := View.dmaCredit_pos _ (numel2 _ (rows_pos t))
theorem crd_src : ∀ (t : Tr) (c : Dev nD), (src t c).view.dmaCredit = crd t
  | .X _, _ | .I false _, _ | .I true _, _ | .C false _ _, _ | .C true _ _, _ | .E false _, _ | .E true _, _
  | .M false _ _, _ | .M true _ _, _ | .Z _, _ => rfl

/-! ## What the copies move, as resources -/

/-- The share of the source a copy takes. -/
def qs : Tr → PosShare TreeShare
  | .X _ => fullShare
  | .I false _ => fullShare.left
  | .I true _ => fullShare.right
  | .C _ _ _ | .E _ _ => fullShare.left
  | .M _ _ _ | .Z _ => fullShare.right.left

/-- The source of a copy, holding what it sends. -/
def srcPts (c : Dev nD) (t : Tr) : sProp 𝕄 :=
  (src t c).view.loc (c : Thread nD τ) ↦[(src t c).view.set]{qs t} can m (src t c) c (SV m t c)
/-- The landing place of a copy to `c`, holding what it brings. -/
def dstPts (c : Dev nD) (t : Tr) : sProp 𝕄 :=
  (dst t).view.loc (c : Thread nD τ) ↦[(dst t).view.set]{fullShare} can m (dst t) c (RV m t c)
/-- The same place, holding anything. -/
def dstRaw (c : Dev nD) (t : Tr) : sProp 𝕄 :=
  iprop(∃ f : Buf (Elt F) ((dst t).view.loc (c : Thread nD τ)),
    (dst t).view.loc (c : Thread nD τ) ↦[(dst t).view.set]{fullShare} f)

/-- What the signals to a barrier cell hand over: the landing places of the copies to the device that signalled. -/
def barPay (c : Dev nD) (k : Fin 3) : sProp 𝕄 :=
  bigSep (Finset.univ.filter fun t : Tr => kind t = k) fun t => dstRaw (peer t c) t

instance srcPts_storable (c : Dev nD) (t : Tr) : BI.Storable (upEmb : UEmb _ 𝕄) (srcPts m c t) := by
  unfold srcPts; infer_instance
instance dstPts_storable (c : Dev nD) (t : Tr) : BI.Storable (upEmb : UEmb _ 𝕄) (dstPts m c t) := by
  unfold dstPts; infer_instance
omit [FloatOps F] in
instance dstRaw_storable (c : Dev nD) (t : Tr) : BI.Storable (upEmb : UEmb _ 𝕄) (dstRaw (F := F) c t) := by
  unfold dstRaw; infer_instance
omit [FloatOps F] in
instance barPay_storable (c : Dev nD) (k : Fin 3) : BI.Storable (upEmb : UEmb _ 𝕄) (barPay (F := F) c k) := by
  unfold barPay; infer_instance

/-! ## The schedule -/

/-- One round: three signals of one unit at a barrier cell, one transfer's credit at a send or receive cell. -/
def rd : Rounds.Schedule (GSem nD τ sig) (Fin 3) 𝕄 where
  duties g r := if r = 0 ∧ g.1.2 = .tc then
      (match tag g.2 with | some none => Finset.univ | some (some _) => {0} | none => ∅) else ∅
  unitless _ := False
  amount g _ _ := match tag g.2 with | some (some p) => crd p.2 | _ => 1
  payload g _ k := match tag g.2 with
    | some none => barPay g.1.1 k
    | some (some (false, t)) => srcPts m g.1.1 t
    | some (some (true, t)) => dstPts m g.1.1 t
    | none => iprop(emp)
  amount_pos g _ _ _ := by
    rcases tag g.2 with _ | _ | p
    · exact Nat.one_pos
    · exact Nat.one_pos
    · exact crd_pos p.2

instance rd_payload_storable (g : GSem nD τ sig) (r : ℕ) (k : Fin 3) :
    BI.Storable (upEmb : UEmb _ 𝕄) ((rd m).payload g r k) := by
  dsimp only [rd]
  rcases tag g.2 with _ | _ | ⟨_ | _, t⟩ <;> dsimp only <;> infer_instance

theorem duties_bar (c : Dev nD) : (rd m).duties (barCell c) 0 = Finset.univ := by
  dsimp only [rd]; rw [if_pos ⟨rfl, rfl⟩, tag_bar]
theorem duties_snd (c : Dev nD) (t : Tr) : (rd m).duties (sndCell c t) 0 = {0} := by
  dsimp only [rd]; rw [if_pos ⟨rfl, rfl⟩, tag_snd]
theorem duties_rcv (c : Dev nD) (t : Tr) : (rd m).duties (rcvCell c t) 0 = {0} := by
  dsimp only [rd]; rw [if_pos ⟨rfl, rfl⟩, tag_rcv]
theorem duties_later (g : GSem nD τ sig) : ∀ r, 1 ≤ r → (rd m).duties g r = ∅ :=
  fun r hr => by dsimp only [rd]; exact if_neg fun h => by omega
theorem amount_bar (c : Dev nD) (k : Fin 3) : (rd m).amount (barCell c) 0 k = 1 := by dsimp only [rd]; rw [tag_bar]
theorem amount_snd (c : Dev nD) (t : Tr) (k : Fin 3) : (rd m).amount (sndCell c t) 0 k = crd t := by dsimp only [rd]; rw [tag_snd]
theorem amount_rcv (c : Dev nD) (t : Tr) (k : Fin 3) : (rd m).amount (rcvCell c t) 0 k = crd t := by dsimp only [rd]; rw [tag_rcv]
theorem expect_bar (c : Dev nD) : (rd m).expect (barCell c) 0 = 3 := by
  unfold Schedule.expect Schedule.amountOf
  rw [duties_bar, Finset.sum_congr rfl fun d _ => amount_bar m c d, Finset.sum_const, Finset.card_univ, Fintype.card_fin, smul_eq_mul]
theorem expect_snd (c : Dev nD) (t : Tr) : (rd m).expect (sndCell c t) 0 = crd t := by
  unfold Schedule.expect Schedule.amountOf; rw [duties_snd, Finset.sum_singleton, amount_snd]
theorem expect_rcv (c : Dev nD) (t : Tr) : (rd m).expect (rcvCell c t) 0 = crd t := by
  unfold Schedule.expect Schedule.amountOf; rw [duties_rcv, Finset.sum_singleton, amount_rcv]
theorem payload_bar (c : Dev nD) (k : Fin 3) : (rd m).payload (barCell c) 0 k = barPay c k := by dsimp only [rd]; rw [tag_bar]
theorem payload_snd (c : Dev nD) (t : Tr) (k : Fin 3) : (rd m).payload (sndCell c t) 0 k = srcPts m c t := by
  dsimp only [rd]; rw [tag_snd]
theorem payload_rcv (c : Dev nD) (t : Tr) (k : Fin 3) : (rd m).payload (rcvCell c t) 0 k = dstPts m c t := by
  dsimp only [rd]; rw [tag_rcv]

/-- The landing places a device's barrier round hands it: one of every copy it sends. -/
theorem rest_bar (c : Dev nD) :
    bigSep ((rd m).duties (barCell c) 0 \ ∅) (fun k => (rd m).payload (barCell c) 0 k)
      ⊢ bigSep Finset.univ fun t : Tr => dstRaw (F := F) (peer t c) t := by
  rw [Finset.sdiff_empty, duties_bar, bigSep_congr fun k _ => payload_bar m c k]
  unfold barPay
  refine Entails.of_eq ?_
  rw [bigSep_fiberwise Finset.univ kind, show Finset.univ.image kind = Finset.univ from by decide]
theorem rest_snd (c : Dev nD) (t : Tr) :
    bigSep ((rd m).duties (sndCell c t) 0 \ ∅) (fun k => (rd m).payload (sndCell c t) 0 k) = srcPts m c t := by
  rw [Finset.sdiff_empty, duties_snd, bigSep_singleton, payload_snd]
theorem rest_rcv (c : Dev nD) (t : Tr) :
    bigSep ((rd m).duties (rcvCell c t) 0 \ ∅) (fun k => (rd m).payload (rcvCell c t) 0 k) = dstPts m c t := by
  rw [Finset.sdiff_empty, duties_rcv, bigSep_singleton, payload_rcv]

/-! ## What a device owes, and the levels -/

/-- The copies in the order they are sent. -/
def order : List Tr := theList.filterMap fun i => match i with | .snd t => some t | _ => none
/-- A copy's place in that order. -/
def pos (t : Tr) : ℕ := order.idxOf t

/-- The credit of the copies in a list, owed to their receive cells. -/
def dues (c : Dev nD) : List Tr → CellTallies nD τ sig Unit
  | [] => 0
  | t :: l => dues c l + tallyAt (rcvCell (peer t c) t) () (crd t)

def O₁ (c : Dev nD) : CellTallies nD τ sig Unit := dues c order + tallyAt (barCell (prv c)) () 1
def O₂ (c : Dev nD) : CellTallies nD τ sig Unit := O₁ c + tallyAt (barCell (nxt c)) () 1
/-- What a device owes at launch: every copy, and three barrier signals. -/
def O₀ (c : Dev nD) : CellTallies nD τ sig Unit := O₂ c + tallyAt (barCell (xpeer c)) () 1

def L (g : GSem nD τ sig) : Finset Unit := if g.1.2 = .tc then {()} else ∅
/-- Receive cells in the order of the copies, above the barrier cells, above everything else. -/
def lvS (x : SemLoc sig) : ℕ := match tag x with
  | some none => 1
  | some (some (true, t)) => pos t + 2
  | _ => 0
def lv (g : GSem nD τ sig) (_ : Unit) : ℕ := lvS g.2

theorem lvS_bar : lvS (.reg barS) = 1 := by unfold lvS; rw [tag_bar]
theorem lvS_snd (t : Tr) : lvS (.dma (sndSem t)) = 0 := by unfold lvS; rw [tag_snd]
theorem lvS_rcv (t : Tr) : lvS (.dma (rcvSem t)) = pos t + 2 := by unfold lvS; rw [tag_rcv]
theorem lvS_load (k : Fin 3) : lvS (.dma (loadSem k)) = 0 := by unfold lvS; rw [tag_load]

theorem L_of_ne (g : GSem nD τ sig) (h : g.1.2 ≠ .tc) : L g = ∅ := if_neg h
theorem L_tc (c : Dev nD) (sm : SemLoc sig) : L ((c : Thread nD τ), sm) = {()} := if_pos rfl

theorem add_tally_pos {O : CellTallies nD τ sig Unit} {g g' : GSem nD τ sig} {u : Unit} {n : ℕ} (h : 0 < (O + tallyAt g' () n) g u) :
    0 < O g u ∨ g = g' := by
  rw [Pi.add_apply, Finsupp.add_apply, tallyAt_apply] at h
  by_cases hg : g = g' ∧ u = ()
  · exact .inr hg.1
  · rw [if_neg hg, Nat.add_zero] at h; exact .inl h

theorem dues_pos {c : Dev nD} {g : GSem nD τ sig} {u : Unit} : ∀ {l : List Tr}, 0 < dues c l g u →
    ∃ t ∈ l, g = rcvCell (peer t c) t
  | [], h => absurd h (Nat.lt_irrefl 0)
  | t :: l, h => by
    rcases add_tally_pos h with h | h
    · obtain ⟨t', ht, e⟩ := dues_pos h
      exact ⟨t', List.mem_cons_of_mem _ ht, e⟩
    · exact ⟨t, List.mem_cons_self, h⟩

theorem O₀_pos {c : Dev nD} {g : GSem nD τ sig} {u : Unit} (h : 0 < O₀ c g u) :
    (∃ t, g = rcvCell (peer t c) t) ∨ ∃ d, g = barCell d := by
  rcases add_tally_pos h with h | h
  · rcases add_tally_pos h with h | h
    · rcases add_tally_pos h with h | h
      · obtain ⟨t, -, e⟩ := dues_pos h
        exact .inl ⟨t, e⟩
      · exact .inr ⟨_, h⟩
    · exact .inr ⟨_, h⟩
  · exact .inr ⟨_, h⟩

omit [FloatOps F] in
/-- A wait below everything owed may be made. -/
theorem mayWait (c : Dev nD) (x : SemLoc sig) (O : CellTallies nD τ sig Unit)
    (hO : ∀ g u, 0 < O g u → g.1.2 = .tc ∧ lvS x < lvS g.2) : (levAts L lv : sProp 𝕄) ⊢ MayWait (c : Thread nD τ) x () O :=
  MayOwe.of_cut (L := L) (lev := lv) (lvS x) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => (hO g u hg).2)

omit [FloatOps F] in
theorem mayWait_dues (c : Dev nD) (x : SemLoc sig) (l : List Tr) (h : ∀ t ∈ l, lvS x < pos t + 2) :
    (levAts L lv : sProp 𝕄) ⊢ MayWait (c : Thread nD τ) x () (dues c l) :=
  mayWait c x _ fun g u hg => by
    obtain ⟨t, ht, rfl⟩ := dues_pos hg
    exact ⟨rfl, by rw [lvS_rcv]; exact h t ht⟩

omit [FloatOps F] in
theorem mayWait_start (c : Dev nD) (x : SemLoc sig) (h : lvS x = 0) :
    (levAts L lv : sProp 𝕄) ⊢ MayWait (c : Thread nD τ) x () (O₀ c) :=
  mayWait c x _ fun g u hg => by
    rcases O₀_pos hg with ⟨t, rfl⟩ | ⟨d, rfl⟩
    · exact ⟨rfl, by rw [lvS_rcv, h]; omega⟩
    · exact ⟨rfl, by rw [lvS_bar, h]; omega⟩

end Cert.AllReduce
-- ==== Proof.Machine.lean ====
/-
A body's progress, and that its instructions may run in their order.
-/
module

public import proofs.«01_k».proof.Proof.Sched

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The copy that sends on what a copy brought, around the ring, and the one that sends it on to the x peer. -/
def u₁ : Tr → Option Tr
  | .I d s => some (.C d s 0)
  | .C d s 0 => some (.C d s 1)
  | .C d s 1 => some (.E d s)
  | _ => none
def u₂ : Tr → Option Tr
  | .I d s => some (.M d s 0)
  | .C d s 0 => some (.M d s 1)
  | .C d s 1 => some (.M d s 2)
  | .E false s => some (.Z s)
  | _ => none

/-! ## The state of a body -/

/-- A copy not yet sent, under way, or waited for by its sender. -/
inductive Sd where
  | ready
  | sent
  | done
deriving DecidableEq

/-- How far a body is: the chunk under way into each staging slot; the chunks and sub-blocks taken in; the buffers
    filled; whether the barrier is passed; each copy's stage, whether the device holds its landing place at the
    addressee, whether it holds what it sends, whether it has received; the copies sent; the pieces stored. -/
structure St where
  fl : Fin 3 → Option Ck := fun _ => none
  w : ℕ := 0
  d : ℕ := 0
  g : ℕ := 0
  xs : Fin 4 → Bool := fun _ => false
  own : Fin 4 → Bool := fun _ => false
  bar : Bool := false
  land : Tr → Bool := fun _ => false
  snd : Tr → Sd := fun _ => .ready
  src : Tr → Bool := fun _ => false
  rcv : Tr → Bool := fun _ => false
  n : ℕ := 0
  out : List Pc := []

/-- Note that what the device holds of these copies is there. -/
def lend (f : Tr → Bool) : Option Tr → Tr → Bool
  | none => f
  | some t => Function.update f t true

/-- The ring copy that brings hop `h`. -/
abbrev hop (d : Bool) (s : Fin 4) : Fin 3 → Tr
  | 0 => .I d s
  | 1 => .C d s 0
  | 2 => .C d s 1

/-- What a piece needs to have been received. -/
abbrev need : Pc → Tr
  | .fin s => .X s
  | .put d s h => hop d s h
  | .putE d s => .E d s
  | .putM d s h => .M d s h
  | .putZ s => .Z s
/-- The sub-blocks whose product a piece needs. -/
abbrev needG : Pc → ℕ
  | .fin s => s.val + 1
  | _ => 0

/-- One instruction, if it may run. -/
def step (σ : St) : Ins → Option St
  | .ldS q => if σ.fl (ckSlot q) = none then some { σ with fl := Function.update σ.fl (ckSlot q) (some q) } else none
  | .ldF (.W i) => if σ.fl (ckSlot (.W i)) = some (.W i) ∧ σ.w = i.val then
      some { σ with fl := Function.update σ.fl (ckSlot (.W i)) none, w := i.val + 1 } else none
  | .ldF (.D i) => if σ.fl (ckSlot (.D i)) = some (.D i) ∧ σ.d = i.val then
      some { σ with fl := Function.update σ.fl (ckSlot (.D i)) none, d := i.val + 1 } else none
  | .gem s => if σ.w = 4 ∧ 2 * s.val + 2 ≤ σ.d ∧ σ.g = s.val then some { σ with g := s.val + 1 } else none
  | .xst s => if s.val < σ.g ∧ σ.xs s = false then
      some { σ with xs := Function.update σ.xs s true, src := Function.update σ.src (.X s) true } else none
  | .own s => if s.val < σ.g ∧ σ.own s = false ∧ σ.rcv (.X s) = true then
      some { σ with own := Function.update σ.own s true,
                    src := Function.update (Function.update σ.src (.I false s) true) (.I true s) true } else none
  | .bar => if σ.bar = false then some { σ with bar := true, land := fun _ => true, n := 0 } else none
  | .snd t => if σ.bar = true ∧ σ.land t = true ∧ σ.snd t = .ready ∧ σ.src t = true ∧ order[σ.n]? = some t then
      some { σ with land := Function.update σ.land t false, snd := Function.update σ.snd t .sent,
                    src := Function.update σ.src t false, n := σ.n + 1 } else none
  | .swt t => if σ.bar = true ∧ σ.snd t = .sent then
      some { σ with snd := Function.update σ.snd t .done, src := Function.update σ.src t true } else none
  | .rcv t => if σ.bar = true ∧ σ.rcv t = false ∧ pos t < σ.n then
      some { σ with rcv := Function.update σ.rcv t true, src := lend (lend σ.src (u₁ t)) (u₂ t) } else none
  | .piece p => if needG p ≤ σ.g ∧ σ.rcv (need p) = true then some { σ with out := p :: σ.out } else none

/-- A list of instructions, if they may run. -/
def run : List Ins → St → Option St
  | [], σ => some σ
  | i :: l, σ => match step σ i with
    | some σ' => run l σ'
    | none => none

/-- The pieces in the order they are stored. -/
def pieces : List Pc := theList.filterMap fun i => match i with | .piece p => some p | _ => none

/-- Everything sent, received and taken in. -/
def ended (σ : St) : Bool :=
  decide (σ.fl = fun _ => none) && σ.bar && decide (∀ t, σ.snd t = .done) && decide (∀ t, σ.src t = true) &&
  decide (∀ t, σ.rcv t = true) && decide (σ.n = order.length) && decide (∀ s, σ.xs s = true) && decide (∀ s, σ.own s = true) &&
  decide (σ.out = pieces.reverse)

set_option maxRecDepth 100000 in
/-- The body runs to its end. -/
theorem run_ends : (run theList {}).any ended = true := by decide +kernel

end Cert.AllReduce
-- ==== Proof.Res.lean ====
/-
What a device holds between two instructions of the body, and what it makes of what arrives.
-/
module

public import proofs.«01_k».proof.Proof.Machine
public import Idealize.ShloMosaic.Lib.ValueLayout

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Weakest precondition of a program on device `c`. -/
abbrev WP (c : Dev nD) (p : KProg F) (Q : PUnit → sProp 𝕄) : sProp 𝕄 :=
  wp frame (wpE (defs₀ (F := F)) 𝒱₀ (c : Thread nD τ) none) Set.univ p Q

/-! ## Reading a window of what arrived -/

theorem rect_ix2 {N n o : ℕ} (h : o + n ≤ N) (a : Fin n) (b : Fin 512) :
    (Rect.unit (s := SR N) ![o, 0] (SR n).size (inb2 h)).emb (ValueIdx.ix2 a b : (SR n).Idx)
      = (ValueIdx.ix2 (⟨o + a.val, by omega⟩ : Fin N) b : (SR N).Idx) := by
  funext x
  refine Fin.ext ?_
  fin_cases x <;> simp [ValueIdx.ix2]

theorem emb_sub4 {J N n o : ℕ} (b : Memref sig .tc .vmem ⟨4, ![4, J, N, 512]⟩ .bf16) (s : Fin 4) (j : Fin J) {N' : ℕ}
    (hN : 0 + N' ≤ N) (h : o + n ≤ N') (hn : o + n ≤ N) (i : (SR n).Idx) :
    (win4 b s j o n hn).view.emb i
      = (win4 b s j 0 N' hN).view.emb ((Rect.unit (s := SR N') ![o, 0] (SR n).size (inb2 h)).emb i) := by
  obtain ⟨x, y, rfl⟩ : ∃ (x : Fin n) (y : Fin 512), i = ValueIdx.ix2 x y := ⟨i 0, i 1, ValueIdx.eq_ix2 i⟩
  rw [rect_ix2 h]
  show b.view.emb ((Rect.unit (s := ⟨4, ![4, J, N, 512]⟩) _ _ _).emb (Shape.reshapeEquiv _ _))
    = b.view.emb ((Rect.unit (s := ⟨4, ![4, J, N, 512]⟩) _ _ _).emb (Shape.reshapeEquiv _ _))
  refine congrArg b.view.emb ?_
  rw [ValueIdx.reshapeEquiv_ix2_11ab, ValueIdx.reshapeEquiv_ix2_11ab]
  funext a
  refine Fin.ext ?_
  fin_cases a <;> simp [ValueIdx.ix4]

theorem read_sub4 {J N n o : ℕ} (b : Memref sig .tc .vmem ⟨4, ![4, J, N, 512]⟩ .bf16) (s : Fin 4) (j : Fin J) {N' : ℕ}
    (hN : 0 + N' ≤ N) (h : o + n ≤ N') (hn : o + n ≤ N) (f) :
    (win4 b s j o n hn).view.read (Elt F) f = rsub h ((win4 b s j 0 N' hN).view.read (Elt F) f) := by
  funext i
  show cast _ (f _) = cast _ (f _)
  congr 1
  rw [emb_sub4 b s j hN h hn]

/-- A smaller window lies in the larger. -/
theorem set_sub4 {J N n o : ℕ} (b : Memref sig .tc .vmem ⟨4, ![4, J, N, 512]⟩ .bf16) (s : Fin 4) (j : Fin J) {N' : ℕ}
    (hN : 0 + N' ≤ N) (h : o + n ≤ N') (hn : o + n ≤ N) :
    (win4 b s j o n hn).view.set ⊆ (win4 b s j 0 N' hN).view.set := by
  intro x hx
  obtain ⟨i, -, rfl⟩ := Finset.mem_map.mp hx
  rw [emb_sub4 b s j hN h hn]
  exact View.emb_mem_set _ _

/-! ## What arrived, carved up for the copies that pass it on -/

/-- What remains of the elements `A` of a buffer when `S₁` is lent at the left share and `S₂` at the middle one. -/
def rem3 (ℓ : Loc nD τ sig) (A S₁ S₂ : Finset (Idx ℓ)) (f : Buf (Elt F) ℓ) : sProp 𝕄 :=
  iprop((ℓ ↦[A \ S₁]{fullShare.left} f) ∗ (ℓ ↦[A \ S₂]{fullShare.right.left} f) ∗ (ℓ ↦[A]{fullShare.right.right} f))

omit [FloatOps F] in
theorem carve3 {ℓ : Loc nD τ sig} {A S₁ S₂ : Finset (Idx ℓ)} (f : Buf (Elt F) ℓ) (h₁ : S₁ ⊆ A) (h₂ : S₂ ⊆ A) :
    (ℓ ↦[A]{fullShare} f : sProp 𝕄)
      ⊣⊢ iprop(((ℓ ↦[S₁]{fullShare.left} f) ∗ (ℓ ↦[S₂]{fullShare.right.left} f)) ∗ rem3 ℓ A S₁ S₂ f) := by
  unfold rem3
  constructor
  · iintro H
    ihave H := (pointsTo_share (PosShare.mem_left_op_right fullShare)).1 $$ H
    icases H with ⟨HL, HR⟩
    ihave HR := (pointsTo_share (PosShare.mem_left_op_right fullShare.right)).1 $$ HR
    icases HR with ⟨HM, HR⟩
    ihave HL := (pointsTo_split_subset h₁).1 $$ HL
    icases HL with ⟨HL, HL'⟩
    ihave HM := (pointsTo_split_subset h₂).1 $$ HM
    icases HM with ⟨HM, HM'⟩
    isplitl [HL HM]
    · isplitl [HL] <;> iassumption
    isplitl [HL']; · iexact HL'
    isplitl [HM'] <;> iassumption
  · iintro ⟨⟨HL, HM⟩, HL', HM', HR⟩
    iapply (pointsTo_share (PosShare.mem_left_op_right fullShare)).2
    isplitl [HL HL']
    · iapply (pointsTo_split_subset h₁).2
      isplitl [HL] <;> iassumption
    iapply (pointsTo_share (PosShare.mem_left_op_right fullShare.right)).2
    isplitl [HM HM']
    · iapply (pointsTo_split_subset h₂).2
      isplitl [HM] <;> iassumption
    iexact HR

def optR (c : Dev nD) : Option Tr → sProp 𝕄
  | none => iprop(emp)
  | some t => srcPts m c t

/-- What a device keeps of a landing place. -/
def kept (c : Dev nD) : Tr → sProp 𝕄
  | .I d s => rem3 ((dst (.I d s)).view.loc (c : Thread nD τ)) (dst (.I d s)).view.set (src (.C d s 0) c).view.set
      (src (.M d s 0) c).view.set (can m (dst (.I d s)) c (RV m (.I d s) c))
  | .C d s 0 => rem3 ((dst (.C d s 0)).view.loc (c : Thread nD τ)) (dst (.C d s 0)).view.set (src (.C d s 1) c).view.set
      (src (.M d s 1) c).view.set (can m (dst (.C d s 0)) c (RV m (.C d s 0) c))
  | .C false s 1 => rem3 ((dst (.C false s 1)).view.loc (c : Thread nD τ)) (dst (.C false s 1)).view.set (src (.E false s) c).view.set
      (src (.M false s 2) c).view.set (can m (dst (.C false s 1)) c (RV m (.C false s 1) c))
  | .C true s 1 => rem3 ((dst (.C true s 1)).view.loc (c : Thread nD τ)) (dst (.C true s 1)).view.set (src (.E true s) c).view.set
      (src (.M true s 2) c).view.set (can m (dst (.C true s 1)) c (RV m (.C true s 1) c))
  | .E false s => rem3 ((dst (.E false s)).view.loc (c : Thread nD τ)) (dst (.E false s)).view.set ∅
      (src (.Z s) c).view.set (can m (dst (.E false s)) c (RV m (.E false s) c))
  | t => dstPts m c t

theorem RV_ring : ∀ (d : Bool) (s : Fin 4) (c : Dev nD), RV m (.I d s) c = RG m d s 0 c
  | false, _, _ | true, _, _ => rfl
theorem RV_C : ∀ (d : Bool) (s : Fin 4) (h : Fin 2) (c : Dev nD), RV m (.C d s h) c = RG m d s (h.val + 1) c
  | false, _, _, _ | true, _, _, _ => rfl

theorem rsub_zero {n : ℕ} {φ : FTy} (h : 0 + n ≤ n) (v : FVec F (SR n) φ) : rsub h v = v := by
  funext i
  obtain ⟨x, y, rfl⟩ : ∃ (x : Fin n) (y : Fin 512), i = ValueIdx.ix2 x y := ⟨i 0, i 1, ValueIdx.eq_ix2 i⟩
  unfold rsub
  rw [rect_ix2 h]
  exact congrArg v (congrArg (ValueIdx.ix2 · y) (Fin.ext (Nat.zero_add _)))

/-- A window lent as two smaller ones, of what it holds. -/
theorem carve_win (c : Dev nD) {J N n₁ n₂ o₁ o₂ N' : ℕ} (b : Memref sig .tc .vmem ⟨4, ![4, J, N, 512]⟩ .bf16) (s : Fin 4)
    (j : Fin J) (hN : 0 + N' ≤ N) (h₁ : o₁ + n₁ ≤ N') (h₂ : o₂ + n₂ ≤ N') (k₁ : o₁ + n₁ ≤ N) (k₂ : o₂ + n₂ ≤ N)
    (v : FVec F (SR N') .bf16) :
    ((win4 b s j 0 N' hN).view.loc (c : Thread nD τ) ↦[(win4 b s j 0 N' hN).view.set]{fullShare} can m (win4 b s j 0 N' hN) c v : sProp 𝕄)
      ⊣⊢ iprop((((win4 b s j o₁ n₁ k₁).view.loc (c : Thread nD τ) ↦[(win4 b s j o₁ n₁ k₁).view.set]{fullShare.left}
              can m (win4 b s j o₁ n₁ k₁) c (rsub h₁ v))
            ∗ ((win4 b s j o₂ n₂ k₂).view.loc (c : Thread nD τ) ↦[(win4 b s j o₂ n₂ k₂).view.set]{fullShare.right.left}
              can m (win4 b s j o₂ n₂ k₂) c (rsub h₂ v)))
          ∗ rem3 ((win4 b s j 0 N' hN).view.loc (c : Thread nD τ)) (win4 b s j 0 N' hN).view.set (win4 b s j o₁ n₁ k₁).view.set
              (win4 b s j o₂ n₂ k₂).view.set (can m (win4 b s j 0 N' hN) c v)) := by
  have e₁ := can_congr m (win4 b s j o₁ n₁ k₁) c (rsub h₁ v) (can m (win4 b s j 0 N' hN) c v)
    ((read_sub4 b s j hN h₁ k₁ _).trans (congrArg (rsub h₁) (read_can m (win4 b s j 0 N' hN) c v)))
  have e₂ := can_congr m (win4 b s j o₂ n₂ k₂) c (rsub h₂ v) (can m (win4 b s j 0 N' hN) c v)
    ((read_sub4 b s j hN h₂ k₂ _).trans (congrArg (rsub h₂) (read_can m (win4 b s j 0 N' hN) c v)))
  have p₁ : ((win4 b s j o₁ n₁ k₁).view.loc (c : Thread nD τ) ↦[(win4 b s j o₁ n₁ k₁).view.set]{fullShare.left}
      can m (win4 b s j o₁ n₁ k₁) c (rsub h₁ v) : sProp 𝕄)
      = ((win4 b s j o₁ n₁ k₁).view.loc (c : Thread nD τ) ↦[(win4 b s j o₁ n₁ k₁).view.set]{fullShare.left} can m (win4 b s j 0 N' hN) c v) :=
    (pointsTo_congr (ℓ := (win4 b s j o₁ n₁ k₁).view.loc (c : Thread nD τ)) e₁).symm
  have p₂ : ((win4 b s j o₂ n₂ k₂).view.loc (c : Thread nD τ) ↦[(win4 b s j o₂ n₂ k₂).view.set]{fullShare.right.left}
      can m (win4 b s j o₂ n₂ k₂) c (rsub h₂ v) : sProp 𝕄)
      = ((win4 b s j o₂ n₂ k₂).view.loc (c : Thread nD τ) ↦[(win4 b s j o₂ n₂ k₂).view.set]{fullShare.right.left} can m (win4 b s j 0 N' hN) c v) :=
    (pointsTo_congr (ℓ := (win4 b s j o₂ n₂ k₂).view.loc (c : Thread nD τ)) e₂).symm
  rw [p₁, p₂]
  exact carve3 _ (set_sub4 b s j hN h₁ k₁) (set_sub4 b s j hN h₂ k₂)

theorem none_left (P : sProp 𝕄) : P ⊣⊢ iprop((emp ∗ emp) ∗ P) := by
  constructor
  · iintro H
    isplitr
    · isplitr <;> iempintro
    iexact H
  · iintro ⟨-, H⟩; iexact H

theorem SV_fwd₀ (d : Bool) (s : Fin 4) (c : Dev nD) : SV m (.C d s 0) c = RV m (.I d s) c := (RV_ring m d s c).symm
theorem SV_mir₀ (d : Bool) (s : Fin 4) (c : Dev nD) : SV m (.M d s 0) c = rsub (mOff_le c) (RV m (.I d s) c) :=
  congrArg (rsub (mOff_le c)) (RV_ring m d s c).symm
theorem SV_fwd₁ (d : Bool) (s : Fin 4) (c : Dev nD) : SV m (.C d s 1) c = RV m (.C d s 0) c := (RV_C m d s 0 c).symm
theorem SV_mir₁ (d : Bool) (s : Fin 4) (c : Dev nD) : SV m (.M d s 1) c = rsub (mOff_le c) (RV m (.C d s 0) c) :=
  congrArg (rsub (mOff_le c)) (RV_C m d s 0 c).symm
theorem SV_fwd₂ (s : Fin 4) (c : Dev nD) : SV m (.E false s) c = rsub (eOff_le false c) (RV m (.C false s 1) c) :=
  congrArg (rsub (eOff_le false c)) (RV_C m false s 1 c).symm
theorem SV_fwd₂' (s : Fin 4) (c : Dev nD) : SV m (.E true s) c = rsub (eOff_le true c) (RV m (.C true s 1) c) :=
  congrArg (rsub (eOff_le true c)) (RV_C m true s 1 c).symm
theorem SV_mir₂ (d : Bool) (s : Fin 4) (c : Dev nD) : SV m (.M d s 2) c = rsub (mOff_le c) (RV m (.C d s 1) c) :=
  congrArg (rsub (mOff_le c)) (RV_C m d s 1 c).symm

theorem carve_I (d : Bool) (s : Fin 4) (c : Dev nD) :
    dstPts m c (.I d s) ⊣⊢ iprop((srcPts m c (.C d s 0) ∗ srcPts m c (.M d s 0)) ∗ kept m c (.I d s)) := by
  have := carve_win m c (J := 4) (N := 192) (o₁ := 0) (n₁ := 192) (o₂ := mOff c) (n₂ := 64) (bRing d) s 0 (Nat.le_refl 192)
    (Nat.le_refl 192) (mOff_le c) (Nat.le_refl 192) (mOff_le c) (RV m (.I d s) c)
  rw [rsub_zero] at this
  unfold srcPts
  rw [SV_fwd₀, SV_mir₀]
  exact this
theorem carve_C (d : Bool) (s : Fin 4) (c : Dev nD) :
    dstPts m c (.C d s 0) ⊣⊢ iprop((srcPts m c (.C d s 1) ∗ srcPts m c (.M d s 1)) ∗ kept m c (.C d s 0)) := by
  have := carve_win m c (J := 4) (N := 192) (o₁ := 0) (n₁ := 192) (o₂ := mOff c) (n₂ := 64) (bRing d) s 1 (Nat.le_refl 192)
    (Nat.le_refl 192) (mOff_le c) (Nat.le_refl 192) (mOff_le c) (RV m (.C d s 0) c)
  rw [rsub_zero] at this
  unfold srcPts
  rw [SV_fwd₁, SV_mir₁]
  exact this
theorem carve_Cf (s : Fin 4) (c : Dev nD) :
    dstPts m c (.C false s 1) ⊣⊢ iprop((srcPts m c (.E false s) ∗ srcPts m c (.M false s 2)) ∗ kept m c (.C false s 1)) := by
  have := carve_win m c (J := 4) (N := 192) (o₁ := eOff false c) (n₁ := 128) (o₂ := mOff c) (n₂ := 64) (bRing false) s 2 (Nat.le_refl 192)
    (eOff_le false c) (mOff_le c) (eOff_le false c) (mOff_le c) (RV m (.C false s 1) c)
  unfold srcPts
  rw [SV_fwd₂, SV_mir₂]
  exact this
theorem carve_Ct (s : Fin 4) (c : Dev nD) :
    dstPts m c (.C true s 1) ⊣⊢ iprop((srcPts m c (.E true s) ∗ srcPts m c (.M true s 2)) ∗ kept m c (.C true s 1)) := by
  have := carve_win m c (J := 4) (N := 192) (o₁ := eOff true c) (n₁ := 64) (o₂ := mOff c) (n₂ := 64) (bRing true) s 2 (Nat.le_refl 192)
    (eOff_le true c) (mOff_le c) (eOff_le true c) (mOff_le c) (RV m (.C true s 1) c)
  unfold srcPts
  rw [SV_fwd₂', SV_mir₂]
  exact this
theorem carve_E (s : Fin 4) (c : Dev nD) :
    dstPts m c (.E false s) ⊣⊢ iprop((emp ∗ srcPts m c (.Z s)) ∗ kept m c (.E false s)) := by
  have hz : zOff c + 64 ≤ 128 := by have := x_le c; rw [zOff_eq]; omega
  have e := can_congr m (src (.Z s) c) c (SV m (.Z s) c) (can m (dst (.E false s)) c (RV m (.E false s) c))
    ((read_sub4 (J := 4) (N := 192) (bRing false) s 3 (eRows_le false) hz (zOff_le c) _).trans
      (congrArg (rsub hz) (read_can m (dst (.E false s)) c (RV m (.E false s) c))))
  have := carve3 (can m (dst (.E false s)) c (RV m (.E false s) c)) (Finset.empty_subset (dst (.E false s)).view.set)
    (set_sub4 (J := 4) (N := 192) (bRing false) s 3 (eRows_le false) hz (zOff_le c))
  rw [pointsTo_empty] at this
  have p : (srcPts m c (.Z s) : sProp 𝕄) = ((src (.Z s) c).view.loc (c : Thread nD τ) ↦[(src (.Z s) c).view.set]{fullShare.right.left}
      can m (dst (.E false s)) c (RV m (.E false s) c)) :=
    (pointsTo_congr (ℓ := (src (.Z s) c).view.loc (c : Thread nD τ)) e).symm
  rw [p]
  exact this

/-- A landing place is what it lends and what is kept of it. -/
theorem carve (c : Dev nD) : ∀ t : Tr, dstPts m c t ⊣⊢ iprop((optR m c (u₁ t) ∗ optR m c (u₂ t)) ∗ kept m c t)
  | .I d s => carve_I m d s c
  | .C d s 0 => carve_C m d s c
  | .C false s 1 => carve_Cf m s c
  | .C true s 1 => carve_Ct m s c
  | .E false s => carve_E m s c
  | .X s => none_left (dstPts m c (.X s))
  | .E true s => none_left (dstPts m c (.E true s))
  | .M d s h => none_left (dstPts m c (.M d s h))
  | .Z s => none_left (dstPts m c (.Z s))

omit [FloatOps F] in
theorem rem3_read {ℓ : Loc nD τ sig} {A S₁ S₂ : Finset (Idx ℓ)} (f : Buf (Elt F) ℓ) :
    (rem3 ℓ A S₁ S₂ f : sProp 𝕄) ⊢ iprop(∃ q : PosShare TreeShare, (ℓ ↦[A]{q} f) ∗ ((ℓ ↦[A]{q} f) -∗ rem3 ℓ A S₁ S₂ f)) := by
  unfold rem3
  iintro ⟨H₁, H₂, H⟩; iexists fullShare.right.right
  isplitl [H]; · iexact H
  iintro H
  isplitl [H₁]; · iexact H₁
  isplitl [H₂] <;> iassumption

omit [FloatOps F] in
theorem full_read {ℓ : Loc nD τ sig} {A : Finset (Idx ℓ)} (f : Buf (Elt F) ℓ) :
    (ℓ ↦[A]{fullShare} f : sProp 𝕄) ⊢ iprop(∃ q : PosShare TreeShare, (ℓ ↦[A]{q} f) ∗ ((ℓ ↦[A]{q} f) -∗ (ℓ ↦[A]{fullShare} f))) := by
  iintro H; iexists fullShare
  isplitl; · iexact H
  iintro H; iexact H

/-- What is kept of a landing place can be read. -/
theorem kept_read (c : Dev nD) : ∀ t : Tr, kept m c t ⊢ iprop(∃ q : PosShare TreeShare,
    ((dst t).view.loc (c : Thread nD τ) ↦[(dst t).view.set]{q} can m (dst t) c (RV m t c))
      ∗ (((dst t).view.loc (c : Thread nD τ) ↦[(dst t).view.set]{q} can m (dst t) c (RV m t c)) -∗ kept m c t))
  | .X s => full_read _
  | .E true s => full_read _
  | .M d s h => full_read _
  | .Z s => full_read _
  | .I d s => rem3_read _
  | .C d s 0 => rem3_read _
  | .C false s 1 => rem3_read _
  | .C true s 1 => rem3_read _
  | .E false s => rem3_read _

end Cert.AllReduce
-- ==== Proof.Inv.lean ====
/-
What a device holds at each state of its body.
-/
module

public import proofs.«01_k».proof.Proof.Res

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ)

/-! ## Families -/

omit [FloatOps F] in
theorem fam_erase {I : Type} [Fintype I] [DecidableEq I] (t : I) (Φ : I → sProp 𝕄) :
    bigSep Finset.univ Φ = iprop(Φ t ∗ bigSep (Finset.univ.erase t) Φ) := bigSep_erase (Finset.mem_univ t)
omit [FloatOps F] in
theorem fam_elim {I : Type} [Fintype I] [DecidableEq I] (t : I) (Φ : I → sProp 𝕄) : bigSep Finset.univ Φ ⊢ Φ t :=
  bigSep_elim (Finset.mem_univ t)
omit [FloatOps F] in
/-- One member of a family, to be replaced. -/
theorem fam_upd {I X : Type} [Fintype I] [DecidableEq I] (R : I → X → sProp 𝕄) (σ : I → X) (t : I) :
    (bigSep Finset.univ fun i => R i (σ i)) ⊢ iprop(R t (σ t) ∗ ∀ x, R t x -∗ bigSep Finset.univ fun i => R i (Function.update σ t x i)) := by
  have e (x : X) : (bigSep (Finset.univ.erase t) fun i => R i (Function.update σ t x i)) = bigSep (Finset.univ.erase t) fun i => R i (σ i) :=
    bigSep_congr fun i hi => congrArg (R i) (Function.update_of_ne (Finset.ne_of_mem_erase hi) x σ)
  rw [fam_erase t]
  iintro ⟨H, Hr⟩
  isplitl [H]; · iexact H
  iintro %x H
  rw [fam_erase t, Function.update_self, e x]
  isplitl [H] <;> iassumption

omit [FloatOps F] in
/-- One member of a family, replaced. -/
theorem fam_set {I X : Type} [Fintype I] [DecidableEq I] (R : I → X → sProp 𝕄) (σ : I → X) (t : I) (x : X) :
    iprop(R t x ∗ bigSep Finset.univ fun i => R i (σ i)) ⊢ bigSep Finset.univ fun i => R i (Function.update σ t x i) := by
  iintro ⟨H, HF⟩
  ihave HF := (fam_upd R σ t) $$ HF
  icases HF with ⟨-, HF⟩
  iapply HF; iexact H

/-! ## What a device holds -/

/-- The share of the arguments a staging slot copies with. -/
def qk : Fin 3 → PosShare TreeShare
  | 0 => fullShare.left
  | 1 => fullShare.right.left
  | 2 => fullShare.right.right

/-- A share of the argument a chunk is of, and of the other. -/
def argOf (c : Dev nD) (r : PosShare TreeShare) (q : Ck) : sProp 𝕄 :=
  (ckSrc q c).view.loc (c : Thread nD τ) ↦[Finset.univ]{r} m _
def argNot (c : Dev nD) (r : PosShare TreeShare) : Ck → sProp 𝕄
  | .W i => argOf m c r (.D 0)
  | .D i => argOf m c r (.W 0)

/-- A staging slot, idle or with a chunk under way. -/
def slotR (c : Dev nD) (k : Fin 3) : Option Ck → sProp 𝕄
  | none => iprop(semVal ((c : Thread nD τ), .dma (loadSem k)) 0
      ∗ (∃ f, (stgAt k).view.loc (c : Thread nD τ) ↦[(stgAt k).view.set]{fullShare} f)
      ∗ argOf m c (qk k) (.W 0) ∗ argOf m c (qk k) (.D 0))
  | some q => iprop(∃ f, Transfers.Flight EC (c : Thread nD τ) (.dma (loadSem k)) () (stgAt k).view.dmaCredit
      iprop(((stgAt k).view.loc (c : Thread nD τ) ↦[(stgAt k).view.set]{fullShare}
          (stgAt k).view.write (Elt F) f ((ckSrc q c).view.read (Elt F) (m ((ckSrc q c).view.loc (c : Thread nD τ)))) Finset.univ)
        ∗ ((ckSrc q c).view.loc (c : Thread nD τ) ↦[(ckSrc q c).view.set]{qk k} m _))
      ∗ ((ckSrc q c).view.loc (c : Thread nD τ) ↦[Finset.univ \ (ckSrc q c).view.set]{qk k} m _)
      ∗ argNot m c (qk k) q)

/-- The staged weights, of which `n` chunks are in; the staged activations; the products, of which `n` are in. -/
def wR (c : Dev nD) (n : ℕ) : sProp 𝕄 :=
  iprop(∃ f : FVec F S512x8192 .bf16, ⌜∀ i, (i 0).val < 128 * n → f i = WB m c i⌝ ∗ (bW.view.loc (c : Thread nD τ) ↦[Finset.univ]{fullShare} f))
def dR (c : Dev nD) (n : ℕ) : sProp 𝕄 :=
  iprop(∃ f : FVec F S1024x8192 .bf16, ⌜∀ i, (i 0).val < 128 * n → f i = DB m c i⌝ ∗ (bD.view.loc (c : Thread nD τ) ↦[Finset.univ]{fullShare} f))
def accR (c : Dev nD) (n : ℕ) : sProp 𝕄 :=
  iprop(∃ f : FVec F S1024x512 .f32, ⌜∀ s : Fin 4, s.val < n → bAcc.view.readAt (Elt F) (bRect s).toLoadRect f = ACC m c s⌝
    ∗ (bAcc.view.loc (c : Thread nD τ) ↦[Finset.univ]{fullShare} f))

/-- A place a copy reads, not filled. -/
def srcRaw (c : Dev nD) (t : Tr) : sProp 𝕄 :=
  iprop(∃ f, (src t c).view.loc (c : Thread nD τ) ↦[(src t c).view.set]{fullShare} f)
def xsR (c : Dev nD) (s : Fin 4) : Bool → sProp 𝕄
  | false => srcRaw c (.X s)
  | true => iprop(emp)
def ownR (c : Dev nD) (s : Fin 4) : Bool → sProp 𝕄
  | false => srcRaw c (.I false s)
  | true => iprop(emp)

/-- The barrier, not yet passed, and passed. -/
def barR (c : Dev nD) : Bool → sProp 𝕄
  | false => iprop(atPos ER (barCell c) 0 ∅ 0 ∗ cred (tallyAt (barCell c) () 3)
      ∗ (dutyTok ER (barCell (xpeer c)) 0 0 ∗ dutyTok ER (barCell (nxt c)) 0 1 ∗ dutyTok ER (barCell (prv c)) 0 2)
      ∗ bigSep Finset.univ fun t : Tr => dstRaw (F := F) c t)
  | true => semVal (barCell c) 0

def landR (c : Dev nD) (t : Tr) : Bool → sProp 𝕄
  | false => iprop(emp)
  | true => dstRaw (peer t c) t
def sndR (c : Dev nD) (t : Tr) : Sd → sProp 𝕄
  | .ready => iprop(dutyTok ER (sndCell c t) 0 0 ∗ dutyTok ER (rcvCell (peer t c) t) 0 0 ∗ atPos ER (sndCell c t) 0 ∅ 0)
  | .sent => iprop(cred (tallyAt (sndCell c t) () (crd t)) ∗ atPos ER (sndCell c t) 0 ∅ 0)
  | .done => semVal (sndCell c t) 0
def srcR (c : Dev nD) (t : Tr) : Bool → sProp 𝕄
  | false => iprop(emp)
  | true => srcPts m c t
def rcvR (c : Dev nD) (t : Tr) : Bool → sProp 𝕄
  | false => iprop(atPos ER (rcvCell c t) 0 ∅ 0 ∗ cred (tallyAt (rcvCell c t) () (crd t)))
  | true => iprop(semVal (rcvCell c t) 0 ∗ kept m c t)

/-- What a piece of the result holds. -/
def PV (c : Dev nD) : (p : Pc) → FVec F (SR (pRows p)) .bf16
  | .fin s => k0_pay14 (ACC m c s) (RV m (.X s) c)
  | .put d s h => RG m d s h.val c
  | .putE false s => RV m (.E false s) c
  | .putE true s => RV m (.E true s) c
  | .putM d s h => RV m (.M d s h) c
  | .putZ s => RV m (.Z s) c

/-- The pieces stored, the last first. -/
def foldOut (c : Dev nD) : List Pc → FVec F S2048x2048 .bf16 → FVec F S2048x2048 .bf16
  | [], g => g
  | p :: l, g => (bOut.access (pRect p c) : View sig .tc _ _ _).write (Elt F) (foldOut c l g) (PV m c p) Finset.univ
def outR (c : Dev nD) (l : List Pc) : sProp 𝕄 :=
  iprop(∃ g : FVec F S2048x2048 .bf16, bOut.view.loc (c : Thread nD τ) ↦[Finset.univ]{fullShare} foldOut m c l g)

/-- What a device still owes. -/
def owed (c : Dev nD) (b : Bool) (n : ℕ) : CellTallies nD τ sig Unit := if b then dues c (order.drop n) else O₀ c
def owesR (c : Dev nD) (b : Bool) (n : ℕ) : sProp 𝕄 := iprop(∃ W, owes (c : Thread nD τ) (owed c b n) W)

/-- What a device holds at a state of its body. -/
def Inv (c : Dev nD) (σ : St) : sProp 𝕄 :=
  iprop((bigSep Finset.univ fun k => slotR m c k (σ.fl k)) ∗ wR m c σ.w ∗ dR m c σ.d ∗ accR m c σ.g
    ∗ (bigSep Finset.univ fun s => xsR c s (σ.xs s)) ∗ (bigSep Finset.univ fun s => ownR c s (σ.own s)) ∗ barR c σ.bar
    ∗ (bigSep Finset.univ fun t => landR c t (σ.land t)) ∗ (bigSep Finset.univ fun t => sndR c t (σ.snd t))
    ∗ (bigSep Finset.univ fun t => srcR m c t (σ.src t)) ∗ (bigSep Finset.univ fun t => rcvR m c t (σ.rcv t))
    ∗ outR m c σ.out ∗ owesR c σ.bar σ.n)

/-- The records of every shared cell, and the levels. -/
def ctx (K : Dev nD × Cl → ℕ) : sProp 𝕄 :=
  iprop((bigSep Finset.univ fun i => cellInv ER (rd m) (K i) (kcell i)) ∗ (bigSep Finset.univ fun i => reached ER (kcell i) 0) ∗ levAts L lv)

instance (K : Dev nD × Cl → ℕ) : BI.Persistent (ctx m K) := by unfold ctx; infer_instance

theorem ctx_inv (K : Dev nD × Cl → ℕ) (i : Dev nD × Cl) : ctx m K ⊢ cellInv ER (rd m) (K i) (kcell i) := by
  unfold ctx; iintro ⟨H, -, -⟩
  have h : (bigSep Finset.univ fun i => cellInv ER (rd m) (K i) (kcell i) : sProp 𝕄) ⊢ cellInv ER (rd m) (K i) (kcell i) := fam_elim i (fun i => cellInv ER (rd m) (K i) (kcell i))
  iapply h; iexact H
theorem ctx_reached (K : Dev nD × Cl → ℕ) (i : Dev nD × Cl) : ctx m K ⊢ reached ER (kcell i) 0 := by
  unfold ctx; iintro ⟨-, H, -⟩
  have h : (bigSep Finset.univ fun i => reached ER (kcell i) 0 : sProp 𝕄) ⊢ reached ER (kcell i) 0 := fam_elim i (fun i => reached ER (kcell i) 0)
  iapply h; iexact H
theorem ctx_lev (K : Dev nD × Cl → ℕ) : ctx m K ⊢ (levAts L lv : sProp 𝕄) := by
  unfold ctx; iintro ⟨-, -, H⟩; iexact H

/-- A semaphore below every landing cell may be waited on at any time. -/
theorem ctx_wait (K : Dev nD × Cl → ℕ) (c : Dev nD) (x : SemLoc sig) (h : lvS x = 0) (b : Bool) (n : ℕ) :
    ctx m K ⊢ (MayWait (c : Thread nD τ) x () (owed c b n) : sProp 𝕄) := by
  have hl : (levAts L lv : sProp 𝕄) ⊢ MayWait (c : Thread nD τ) x () (owed c b n) := by
    cases b with
    | true => exact mayWait_dues c x (order.drop n) fun t _ => h.symm ▸ Nat.succ_pos _
    | false => exact mayWait_start c x h
  exact BIBase.Entails.trans (ctx_lev m K) hl

end Cert.AllReduce
-- ==== Proof.Mem.lean ====
/-
The instructions that stage, multiply and add.
-/
module

public import proofs.«01_k».proof.Proof.Inv

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ) (K : Dev nD × Cl → ℕ)

/-! ## Rows of a buffer -/

/-- Rows `o ..` of an array of `N` rows, as a rectangle. -/
abbrev rowRect {N C : ℕ} (o n : ℕ) (h : ∀ a, (![o, 0] : Fin 2 → ℕ) a + (⟨2, ![n, C]⟩ : Shape).size a ≤ (⟨2, ![N, C]⟩ : Shape).size a) :
    Rect ⟨2, ![N, C]⟩ := Rect.unit (s := ⟨2, ![N, C]⟩) ![o, 0] (⟨2, ![n, C]⟩ : Shape).size h

theorem row_emb {N C o n : ℕ} (h : ∀ a, (![o, 0] : Fin 2 → ℕ) a + (⟨2, ![n, C]⟩ : Shape).size a ≤ (⟨2, ![N, C]⟩ : Shape).size a)
    (x : (⟨2, ![n, C]⟩ : Shape).Idx) :
    (((rowRect o n h).emb x) 0).val = o + (x 0).val ∧ (((rowRect o n h).emb x) 1).val = (x 1).val :=
  ⟨by simp, by simp⟩

theorem row_mem {N C o n : ℕ} (h : ∀ a, (![o, 0] : Fin 2 → ℕ) a + (⟨2, ![n, C]⟩ : Shape).size a ≤ (⟨2, ![N, C]⟩ : Shape).size a)
    (j : (⟨2, ![N, C]⟩ : Shape).Idx) (h₁ : o ≤ (j 0).val) (h₂ : (j 0).val < o + n) :
    (rowRect o n h).emb (ValueIdx.ix2 (⟨(j 0).val - o, by omega⟩ : Fin n) (j 1) : (⟨2, ![n, C]⟩ : Shape).Idx) = j := by
  funext a
  refine Fin.ext ?_
  fin_cases a
  · exact ((row_emb h _).1).trans (Nat.add_sub_cancel' h₁)
  · exact (row_emb h _).2

/-- Rows filled up to `o`, with the next `n` written too. -/
theorem fill {N C o n : ℕ} {e : EltTy} (v : View sig .tc .vmem ⟨2, ![N, C]⟩ e)
    (h : ∀ a, (![o, 0] : Fin 2 → ℕ) a + (⟨2, ![n, C]⟩ : Shape).size a ≤ (⟨2, ![N, C]⟩ : Shape).size a)
    (f : v.ty.Contents (Elt F)) (G : (⟨2, ![N, C]⟩ : Shape).Idx → Elt F e) (w : (⟨2, ![n, C]⟩ : Shape).Idx → Elt F e)
    (hf : ∀ j, (j 0).val < o → v.read (Elt F) f j = G j) (hw : ∀ x, w x = G ((rowRect o n h).emb x)) :
    ∀ j, (j 0).val < o + n → v.read (Elt F) ((v.slice (rowRect o n h)).write (Elt F) f w Finset.univ) j = G j := by
  intro j hj
  by_cases hlt : (j 0).val < o
  · rw [View.read_slice_write_of_not_mem, hf j hlt]
    intro hm
    obtain ⟨x, -, rfl⟩ := Finset.mem_map.mp hm
    rw [(row_emb h x).1] at hlt
    omega
  · obtain ⟨x, rfl⟩ : ∃ x, (rowRect o n h).emb x = j := ⟨_, row_mem h j (by omega) hj⟩
    rw [View.read_slice_write_emb _ _ _ (Finset.mem_univ x), hw]

/-! ## Staging -/

omit [FloatOps F] in
theorem swap (P Q : sProp 𝕄) : iprop(P ∗ Q) ⊢ iprop(Q ∗ P) := by
  iintro ⟨H, H'⟩; isplitl [H']; · iexact H'
  iexact H

theorem arg_split (c : Dev nD) (r : PosShare TreeShare) : ∀ q : Ck,
    iprop(argOf m c r (.W 0) ∗ argOf m c r (.D 0)) ⊢ iprop(argOf m c r q ∗ argNot m c r q)
  | .W _ => .rfl
  | .D _ => swap _ _
theorem arg_join (c : Dev nD) (r : PosShare TreeShare) : ∀ q : Ck,
    iprop(argOf m c r q ∗ argNot m c r q) ⊢ iprop(argOf m c r (.W 0) ∗ argOf m c r (.D 0))
  | .W _ => .rfl
  | .D _ => swap _ _

theorem slot_none (c : Dev nD) (k : Fin 3) : iprop(semVal ((c : Thread nD τ), .dma (loadSem k)) 0
      ∗ (∃ f, (stgAt k).view.loc (c : Thread nD τ) ↦[(stgAt k).view.set]{fullShare} f)
      ∗ argOf m c (qk k) (.W 0) ∗ argOf m c (qk k) (.D 0)) ⊢ slotR m c k none := .rfl
theorem slot_some (c : Dev nD) (k : Fin 3) (q : Ck) : slotR m c k (some q) = iprop(∃ f, Transfers.Flight EC (c : Thread nD τ) (.dma (loadSem k)) () (stgAt k).view.dmaCredit
      iprop(((stgAt k).view.loc (c : Thread nD τ) ↦[(stgAt k).view.set]{fullShare}
          (stgAt k).view.write (Elt F) f ((ckSrc q c).view.read (Elt F) (m ((ckSrc q c).view.loc (c : Thread nD τ)))) Finset.univ)
        ∗ ((ckSrc q c).view.loc (c : Thread nD τ) ↦[(ckSrc q c).view.set]{qk k} m _))
      ∗ ((ckSrc q c).view.loc (c : Thread nD τ) ↦[Finset.univ \ (ckSrc q c).view.set]{qk k} m _)
      ∗ argNot m c (qk k) q) := rfl

/-- A chunk put under way. -/
theorem step_ldS (c : Dev nD) (σ : St) (q : Ck) (hf : σ.fl (ckSlot q) = none) (k : KProg F) (Q : PUnit → sProp 𝕄) :
    iprop(ctx m K ∗ Inv m c σ)
      ⊢ iprop((Inv m c { σ with fl := Function.update σ.fl (ckSlot q) (some q) } -∗ WP c k Q) -∗ WP c (exec c (.ldS q) k) Q) := by
  unfold Inv exec
  iintro ⟨#Hx, Hsl, Hrest⟩ Hk
  ihave Hsl := (fam_upd (fun k x => slotR m c k x) σ.fl (ckSlot q)) $$ Hsl
  icases Hsl with ⟨Hs, Hsl⟩
  have e : slotR m c (ckSlot q) (σ.fl (ckSlot q)) = iprop(semVal ((c : Thread nD τ), .dma (loadSem (ckSlot q))) 0
      ∗ (∃ f, (stgAt (ckSlot q)).view.loc (c : Thread nD τ) ↦[(stgAt (ckSlot q)).view.set]{fullShare} f)
      ∗ argOf m c (qk (ckSlot q)) (.W 0) ∗ argOf m c (qk (ckSlot q)) (.D 0)) := by rw [hf]; rfl
  ihave Hs := (Entails.of_eq e) $$ Hs
  icases Hs with ⟨Hz, ⟨%f, Hst⟩, Hab⟩
  ihave Hab := (arg_split m c (qk (ckSlot q)) q) $$ Hab
  icases Hab with ⟨Ha, Hb⟩
  unfold argOf
  ihave Ha := (pointsTo_split_subset (Finset.subset_univ (ckSrc q c).view.set)).1 $$ Ha
  icases Ha with ⟨Ha, Har⟩
  iapply (Transfers.wp_dmaLocal EC 𝒱₀ (c : Thread nD τ) none () (stgAt (ckSlot q)).view.dmaCredit rfl
    (View.dmaCredit_pos _ h_S128x8192) (Finset.Subset.refl _)) $$ [Ha Hst Hz]
  · isplitl [Ha]; · iexact Ha
    isplitl [Hst]; · iexact Hst
    iexact Hz
  iintro Hfl
  iapply Hk
  isplitr [Hrest]
  · iapply Hsl
    iapply (Entails.of_eq (slot_some m c (ckSlot q) q).symm)
    iexists f
    isplitl [Hfl]; · iexact Hfl
    isplitl [Har]; · iexact Har
    iexact Hb
  iexact Hrest

theorem stg_set (k : Fin 3) : bStg.view.setOn (stgRect k).toLoadRect.set ⊆ (stgAt k).view.set := by
  rw [View.set_reshape, View.set_slice]
  exact Finset.Subset.refl _

/-- What a staged chunk reads as, cast. -/
theorem stg_pay (c : Dev nD) (q : Ck) (f : Buf (Elt F) ((stgAt (ckSlot q)).view.loc (c : Thread nD τ))) :
    k0_pay2 (bStg.view.readAt (Elt F) (stgRect (ckSlot q)).toLoadRect
      ((stgAt (ckSlot q)).view.write (Elt F) f ((ckSrc q c).view.read (Elt F) (m ((ckSrc q c).view.loc (c : Thread nD τ)))) Finset.univ))
    = CK m q c := by
  unfold k0_pay2 CK
  have := View.read_write_univ (v := (stgAt (ckSlot q)).view) (Val := Elt F) f
    ((ckSrc q c).view.read (Elt F) (m ((ckSrc q c).view.loc (c : Thread nD τ))))
  exact congrArg (fun v => shapeCast S128x8192 (truncf .bf16 v bitsLt_bf16_f32) shapeCasts_S128x8192_S128x8192) this

theorem ck_W (c : Dev nD) (i : Fin 4) (x : S128x8192.Idx) : CK m (.W i) c x = WB m c ((wRect i).emb x) := by
  obtain ⟨h₀, h₁⟩ := row_emb (wRow_inb i) x
  have hx : (x 0).val < 128 := (x 0).isLt
  have hi : 128 * i.val + (x 0).val < 512 := by omega
  unfold WB
  have e₁ : (⟨((wRect i).emb x 0).val / 128, by have := ((wRect i).emb x 0).isLt; have h : ((wRect i).emb x 0).val < 512 := this; omega⟩ : Fin 4) = i :=
    Fin.ext (by show ((wRect i).emb x 0).val / 128 = i.val; rw [h₀]; omega)
  have e₂ : (ValueIdx.ix2 (⟨((wRect i).emb x 0).val % 128, Nat.mod_lt _ (by decide)⟩ : Fin 128) ((wRect i).emb x 1) : S128x8192.Idx) = x := by
    funext a
    refine Fin.ext ?_
    fin_cases a
    · show ((wRect i).emb x 0).val % 128 = (x 0).val; rw [h₀]; omega
    · exact h₁
  rw [e₁, e₂]

theorem ck_D (c : Dev nD) (i : Fin 8) (x : S128x8192.Idx) : CK m (.D i) c x = DB m c ((dRect i).emb x) := by
  obtain ⟨h₀, h₁⟩ := row_emb (dRow_inb i) x
  have hx : (x 0).val < 128 := (x 0).isLt
  unfold DB
  have e₁ : (⟨((dRect i).emb x 0).val / 128, by have := ((dRect i).emb x 0).isLt; have h : ((dRect i).emb x 0).val < 1024 := this; omega⟩ : Fin 8) = i :=
    Fin.ext (by show ((dRect i).emb x 0).val / 128 = i.val; rw [h₀]; omega)
  have e₂ : (ValueIdx.ix2 (⟨((dRect i).emb x 0).val % 128, Nat.mod_lt _ (by decide)⟩ : Fin 128) ((dRect i).emb x 1) : S128x8192.Idx) = x := by
    funext a
    refine Fin.ext ?_
    fin_cases a
    · show ((dRect i).emb x 0).val % 128 = (x 0).val; rw [h₀]; omega
    · exact h₁
  rw [e₁, e₂]

theorem fill_W (c : Dev nD) (i : Fin 4) (g : FVec F S512x8192 .bf16) (hg : ∀ j, (j 0).val < 128 * i.val → g j = WB m c j)
    (j : S512x8192.Idx) (hj : (j 0).val < 128 * (i.val + 1)) :
    (bW.view.slice (wRect i)).write (Elt F) g (CK m (.W i) c) Finset.univ j = WB m c j := by
  have h := fill (N := 512) (C := 8192) (o := 128 * i.val) (n := 128) bW.view (wRow_inb i) g (WB m c) (CK m (.W i) c) hg (ck_W m c i) j
    (by rw [Nat.mul_succ] at hj; exact hj)
  rwa [View.read_whole] at h
theorem fill_D (c : Dev nD) (i : Fin 8) (g : FVec F S1024x8192 .bf16) (hg : ∀ j, (j 0).val < 128 * i.val → g j = DB m c j)
    (j : S1024x8192.Idx) (hj : (j 0).val < 128 * (i.val + 1)) :
    (bD.view.slice (dRect i)).write (Elt F) g (CK m (.D i) c) Finset.univ j = DB m c j := by
  have h := fill (N := 1024) (C := 8192) (o := 128 * i.val) (n := 128) bD.view (dRow_inb i) g (DB m c) (CK m (.D i) c) hg (ck_D m c i) j
    (by rw [Nat.mul_succ] at hj; exact hj)
  rwa [View.read_whole] at h

/-- The wait for a chunk: the staged chunk, and the slot once it has been read. -/
theorem slot_wait (c : Dev nD) (σ : St) (q : Ck) (hf : σ.fl (ckSlot q) = some q) (Q : PUnit → sProp 𝕄) (k : PUnit → KProg F) :
    iprop(ctx m K ∗ (bigSep Finset.univ fun k => slotR m c k (σ.fl k)) ∗ owesR c σ.bar σ.n)
      ⊢ iprop((∀ f : Buf (Elt F) ((stgAt (ckSlot q)).view.loc (c : Thread nD τ)),
            ((stgAt (ckSlot q)).view.loc (c : Thread nD τ) ↦[(stgAt (ckSlot q)).view.set]{fullShare}
              (stgAt (ckSlot q)).view.write (Elt F) f ((ckSrc q c).view.read (Elt F) (m ((ckSrc q c).view.loc (c : Thread nD τ)))) Finset.univ)
            -∗ (((stgAt (ckSlot q)).view.loc (c : Thread nD τ) ↦[(stgAt (ckSlot q)).view.set]{fullShare}
              (stgAt (ckSlot q)).view.write (Elt F) f ((ckSrc q c).view.read (Elt F) (m ((ckSrc q c).view.loc (c : Thread nD τ)))) Finset.univ)
                -∗ bigSep Finset.univ fun k => slotR m c k (Function.update σ.fl (ckSlot q) none k))
            -∗ owesR c σ.bar σ.n -∗ WP c (k ⟨⟩) Q)
          -∗ WP c (Prog.op (.waitDma2 (loadSem (ckSlot q)) (ckSrc q c) (stgAt (ckSlot q)) (View.wordExact_bits rfl)
              ((View.wordExact_bits rfl).reshape _ _)) k) Q) := by
  iintro ⟨#Hx, Hsl, Ho⟩ Hk
  ihave Hsl := (fam_upd (fun k x => slotR m c k x) σ.fl (ckSlot q)) $$ Hsl
  icases Hsl with ⟨Hs, Hsl⟩
  have e : slotR m c (ckSlot q) (σ.fl (ckSlot q)) = slotR m c (ckSlot q) (some q) := by rw [hf]
  ihave Hs := (Entails.of_eq (e.trans (slot_some m c (ckSlot q) q))) $$ Hs
  icases Hs with ⟨%f, Hfl, Har, Hb⟩
  unfold owesR
  icases Ho with ⟨%W, Ho⟩
  iapply (Transfers.wp_waitLocalO EC 𝒱₀ (c : Thread nD τ) none () rfl) $$ [Hfl Ho]
  · isplitl [Hfl]; · iexact Hfl
    isplitl [Ho]; · iexact Ho
    iapply (ctx_wait m K c (.dma (loadSem (ckSlot q))) (lvS_load (ckSlot q)) σ.bar σ.n); iexact Hx
  iintro ⟨⟨Hst, Ha⟩, Hz, Ho⟩
  iapply Hk $$ Hst [Hsl Ha Har Hb Hz] [Ho]
  · iintro Hst
    iapply Hsl
    iapply (slot_none m c (ckSlot q))
    isplitl [Hz]; · iexact Hz
    isplitl [Hst]; · iexists _; iexact Hst
    iapply (arg_join m c (qk (ckSlot q)) q)
    isplitl [Ha Har]
    · unfold argOf
      iapply (pointsTo_split_subset (Finset.subset_univ (ckSrc q c).view.set)).2
      isplitl [Ha] <;> iassumption
    iexact Hb
  iexists _; iexact Ho

/-- A chunk of the weights taken in. -/
theorem step_ldW (c : Dev nD) (σ : St) (i : Fin 4) (hf : σ.fl (ckSlot (.W i)) = some (.W i)) (hw : σ.w = i.val) (k : KProg F) (Q : PUnit → sProp 𝕄) :
    iprop(ctx m K ∗ Inv m c σ)
      ⊢ iprop((Inv m c { σ with fl := Function.update σ.fl (ckSlot (.W i)) none, w := i.val + 1 } -∗ WP c k Q)
        -∗ WP c (exec c (.ldF (.W i)) k) Q) := by
  unfold Inv exec
  iintro ⟨#Hx, Hsl, Hw, Hd, Ha, Hxs, How, Hb, Hla, Hsn, Hsr, Hrc, Hou, Ho⟩ Hk
  iapply (slot_wait m K c σ (.W i) hf) $$ [Hsl Ho]
  · isplitr; · iexact Hx
    isplitl [Hsl] <;> iassumption
  iintro %f Hst Hsl Ho
  iapply (wp_load 𝒱₀ (c : Thread nD τ) none Set.univ (m := bStg) (stg_set (ckSlot (.W i)))) $$ Hst; iintro Hst
  rw [stg_pay]
  ihave Hsl := Hsl $$ Hst
  unfold wR
  icases Hw with ⟨%g, %hg, Hw⟩
  iapply (wp_load 𝒱₀ (c : Thread nD τ) none Set.univ (m := bW) (Finset.subset_univ _)) $$ Hw; iintro Hw
  iapply (wp_store 𝒱₀ (c : Thread nD τ) none Set.univ (m := bW) (r := wRect i) (Mk := Finset.univ) (Finset.subset_univ _)) $$ Hw; iintro Hw
  iapply Hk
  isplitl [Hsl]; · iexact Hsl
  isplitl [Hw]
  · iexists _
    isplitr; rotate_left
    · iexact Hw
    ipureintro
    intro j hj
    rw [hw] at hg
    exact fill_W m c i g hg j hj
  isplitl [Hd]; · iexact Hd
  isplitl [Ha]; · iexact Ha
  isplitl [Hxs]; · iexact Hxs
  isplitl [How]; · iexact How
  isplitl [Hb]; · iexact Hb
  isplitl [Hla]; · iexact Hla
  isplitl [Hsn]; · iexact Hsn
  isplitl [Hsr]; · iexact Hsr
  isplitl [Hrc]; · iexact Hrc
  isplitl [Hou]; · iexact Hou
  iexact Ho

/-- A chunk of the activations taken in. -/
theorem step_ldD (c : Dev nD) (σ : St) (i : Fin 8) (hf : σ.fl (ckSlot (.D i)) = some (.D i)) (hd : σ.d = i.val) (k : KProg F) (Q : PUnit → sProp 𝕄) :
    iprop(ctx m K ∗ Inv m c σ)
      ⊢ iprop((Inv m c { σ with fl := Function.update σ.fl (ckSlot (.D i)) none, d := i.val + 1 } -∗ WP c k Q)
        -∗ WP c (exec c (.ldF (.D i)) k) Q) := by
  unfold Inv exec
  iintro ⟨#Hx, Hsl, Hw, Hd, Hrest, Hxs, How, Hb, Hla, Hsn, Hsr, Hrc, Hou, Ho⟩ Hk
  iapply (slot_wait m K c σ (.D i) hf) $$ [Hsl Ho]
  · isplitr; · iexact Hx
    isplitl [Hsl] <;> iassumption
  iintro %f Hst Hsl Ho
  iapply (wp_load 𝒱₀ (c : Thread nD τ) none Set.univ (m := bStg) (stg_set (ckSlot (.D i)))) $$ Hst; iintro Hst
  rw [stg_pay]
  ihave Hsl := Hsl $$ Hst
  unfold dR
  icases Hd with ⟨%g, %hg, Hd⟩
  iapply (wp_load 𝒱₀ (c : Thread nD τ) none Set.univ (m := bD) (Finset.subset_univ _)) $$ Hd; iintro Hd
  iapply (wp_store 𝒱₀ (c : Thread nD τ) none Set.univ (m := bD) (r := dRect i) (Mk := Finset.univ) (Finset.subset_univ _)) $$ Hd; iintro Hd
  iapply Hk
  isplitl [Hsl]; · iexact Hsl
  isplitl [Hw]; · iexact Hw
  isplitl [Hd]
  · iexists _
    isplitr; rotate_left
    · iexact Hd
    ipureintro
    intro j hj
    rw [hd] at hg
    exact fill_D m c i g hg j hj
  isplitl [Hrest]; · iexact Hrest
  isplitl [Hxs]; · iexact Hxs
  isplitl [How]; · iexact How
  isplitl [Hb]; · iexact Hb
  isplitl [Hla]; · iexact Hla
  isplitl [Hsn]; · iexact Hsn
  isplitl [Hsr]; · iexact Hsr
  isplitl [Hrc]; · iexact Hrc
  isplitl [Hou]; · iexact Hou
  iexact Ho

end Cert.AllReduce
-- ==== Proof.Sums.lean ====
/-
The instructions that multiply, add, and store the result.
-/
module

public import proofs.«01_k».proof.Proof.Mem
public import Idealize.ShloMosaic.Lib.ViewIndex

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ) (K : Dev nD × Cl → ℕ)

omit [FloatOps F] in
/-- Unit-stride rectangles apart along an axis. -/
theorem unit_disj {s : Shape} {o n o' n' : Fin s.rank → ℕ} {h h'} (a : Fin s.rank) (ha : o a + n a ≤ o' a ∨ o' a + n' a ≤ o a) :
    Disjoint (Rect.unit (s := s) o n h).set (Rect.unit (s := s) o' n' h').set := by
  refine Finset.disjoint_left.mpr fun i hi hi' => ?_
  have h₁ := Rect.mem_set_unit.mp hi a
  have h₂ := Rect.mem_set_unit.mp hi' a
  omega

/-! ## The products -/

theorem dots_D (c : Dev nD) (s : Fin 4) (d : ℕ) (hd : 2 * s.val + 2 ≤ d) (g : FVec F S1024x8192 .bf16)
    (hg : ∀ j, (j 0).val < 128 * d → g j = DB m c j) :
    bD.view.readAt (Elt F) (gRect s).toLoadRect g = bD.view.readAt (Elt F) (gRect s).toLoadRect (DB m c) := by
  refine View.readAt_congr fun i hi => hg i ?_
  have hi' : i ∈ (gRect s).set := by
    obtain ⟨x, hx, rfl⟩ := Finset.mem_map.mp hi
    exact hx
  have := (Rect.mem_set_unit.mp hi' 0).2
  have h : (i 0).val < 256 * s.val + 256 := this
  omega

theorem dots_W (c : Dev nD) (g : FVec F S512x8192 .bf16) (hg : ∀ j, (j 0).val < 128 * 4 → g j = WB m c j) : g = WB m c :=
  funext fun j => hg j (j 0).isLt

omit [FloatOps F] in
theorem z2 : (![0, 0] : Fin 2 → Nat) = fun _ => 0 := funext fun a => by fin_cases a <;> rfl

theorem acc_upd (c : Dev nD) (s : Fin 4) (f : FVec F S1024x512 .f32)
    (hf : ∀ s' : Fin 4, s'.val < s.val → bAcc.view.readAt (Elt F) (bRect s').toLoadRect f = ACC m c s') (s' : Fin 4) (hs : s'.val < s.val + 1) :
    bAcc.view.readAt (Elt F) (bRect s').toLoadRect ((bAcc.view.slice (bRect s)).write (Elt F) f (ACC m c s) Finset.univ) = ACC m c s' := by
  rw [View.readAt_rect]
  by_cases e : s' = s
  · subst e; exact View.read_write_univ _ _
  · have hlt : s'.val < s.val := by
      have : s'.val ≠ s.val := fun h => e (Fin.ext h)
      omega
    rw [View.read_slice_write_slice_of_disjoint, ← View.readAt_rect, hf s' hlt]
    rw [View.setOn_univ]
    refine View.disjoint_slice (unit_disj 0 (.inl ?_))
    show 256 * s'.val + 256 ≤ 256 * s.val
    omega

/-- One block of products. -/
theorem step_gem (c : Dev nD) (σ : St) (s : Fin 4) (hw : σ.w = 4) (hd : 2 * s.val + 2 ≤ σ.d) (hg : σ.g = s.val) (k : KProg F)
    (Q : PUnit → sProp 𝕄) :
    iprop(ctx m K ∗ Inv m c σ) ⊢ iprop((Inv m c { σ with g := s.val + 1 } -∗ WP c k Q) -∗ WP c (exec c (.gem s) k) Q) := by
  unfold Inv exec
  iintro ⟨#Hx, Hsl, Hw, Hd, Ha, Hrest⟩ Hk
  unfold wR dR accR
  icases Hw with ⟨%fw, %hfw, Hw⟩
  icases Hd with ⟨%fd, %hfd, Hd⟩
  icases Ha with ⟨%fa, %hfa, Ha⟩
  rw [hw] at hfw
  obtain rfl := dots_W m c fw hfw
  iapply (wp_load 𝒱₀ (c : Thread nD τ) none Set.univ (m := bD) (Finset.subset_univ _)) $$ Hd; iintro Hd
  iapply (wp_load 𝒱₀ (c : Thread nD τ) none Set.univ (m := bW) (Finset.subset_univ _)) $$ Hw; iintro Hw
  have ew : bW.view.readAt (Elt F) (Rect.unit (s := S512x8192) ![0, 0] S512x8192.size inb_S512x8192_S512x8192_0_0).toLoadRect (WB m c) = WB m c :=
    Memref.readAt_unit_zero (Elt F) cc0_scratch1 z2 _ _
  rw [dots_D m c s σ.d hd fd hfd, ew]
  iapply (wp_load 𝒱₀ (c : Thread nD τ) none Set.univ (m := bAcc) (Finset.subset_univ _)) $$ Ha; iintro Ha
  iapply (wp_store 𝒱₀ (c : Thread nD τ) none Set.univ (m := bAcc) (r := bRect s) (Mk := Finset.univ) (Finset.subset_univ _)) $$ Ha; iintro Ha
  iapply Hk
  isplitl [Hsl]; · iexact Hsl
  isplitl [Hw]
  · iexists _; isplitr; rotate_left
    · iexact Hw
    ipureintro; exact fun _ _ => rfl
  isplitl [Hd]
  · iexists _; isplitr; rotate_left
    · iexact Hd
    ipureintro; exact hfd
  isplitl [Ha]
  · iexists _; isplitr; rotate_left
    · iexact Ha
    ipureintro
    intro s' hs'
    rw [hg] at hfa
    exact acc_upd m c s fa hfa s' hs'
  iexact Hrest

/-! ## What is sent -/

theorem src_pts (c : Dev nD) (t : Tr) (q : PosShare TreeShare) (f : Buf (Elt F) ((src t c).view.loc (c : Thread nD τ)))
    (h : (src t c).view.read (Elt F) f = SV m t c) :
    ((src t c).view.loc (c : Thread nD τ) ↦[(src t c).view.set]{q} f : sProp 𝕄)
      = ((src t c).view.loc (c : Thread nD τ) ↦[(src t c).view.set]{q} can m (src t c) c (SV m t c)) :=
  pointsTo_congr (ℓ := (src t c).view.loc (c : Thread nD τ)) (can_congr m (src t c) c (SV m t c) f h)

theorem emp_xs (c : Dev nD) (s : Fin 4) : iprop(emp) ⊢ (xsR c s true : sProp 𝕄) := .rfl
theorem emp_own (c : Dev nD) (s : Fin 4) : iprop(emp) ⊢ (ownR c s true : sProp 𝕄) := .rfl
theorem x_src (c : Dev nD) (s : Fin 4) (f : Buf (Elt F) ((src (.X s) c).view.loc (c : Thread nD τ))) :
    ((bXs.access (bRect s) : View sig .tc _ _ _).loc (c : Thread nD τ) ↦[(src (.X s) c).view.set]{fullShare}
        (bXs.access (bRect s) : View sig .tc _ _ _).write (Elt F) f (k0_pay9 (ACC m c s)) Finset.univ : sProp 𝕄)
      ⊢ srcR m c (.X s) true :=
  Entails.of_eq (src_pts m c (.X s) fullShare ((src (.X s) c).view.write (Elt F) f (SV m (.X s) c) Finset.univ) (View.read_write_univ _ _))

/-- A block of products made ready for the x peer. -/
theorem step_xst (c : Dev nD) (σ : St) (s : Fin 4) (hg : s.val < σ.g) (hx : σ.xs s = false) (k : KProg F) (Q : PUnit → sProp 𝕄) :
    iprop(ctx m K ∗ Inv m c σ)
      ⊢ iprop((Inv m c { σ with xs := Function.update σ.xs s true, src := Function.update σ.src (.X s) true } -∗ WP c k Q)
        -∗ WP c (exec c (.xst s) k) Q) := by
  unfold Inv exec
  iintro ⟨#Hx, Hsl, Hw, Hd, Ha, Hxs, How, Hb, Hla, Hsn, Hsr, Hrest⟩ Hk
  ihave Hxs := (fam_upd (fun s x => xsR (F := F) c s x) σ.xs s) $$ Hxs
  icases Hxs with ⟨Hs, Hxs⟩
  have e : (xsR c s (σ.xs s) : sProp 𝕄) = srcRaw c (.X s) := by rw [hx]; rfl
  ihave Hs := (Entails.of_eq e) $$ Hs
  unfold srcRaw
  icases Hs with ⟨%f, Hs⟩
  unfold accR
  icases Ha with ⟨%fa, %hfa, Ha⟩
  iapply (wp_load 𝒱₀ (c : Thread nD τ) none Set.univ (m := bAcc) (Finset.subset_univ _)) $$ Ha; iintro Ha
  rw [hfa s hg]
  iapply (wp_load 𝒱₀ (c : Thread nD τ) none Set.univ (m := bXs) (by rw [View.set_slice]; exact Finset.Subset.refl _)) $$ Hs; iintro Hs
  iapply (wp_store 𝒱₀ (c : Thread nD τ) none Set.univ (m := bXs) (r := bRect s) (Mk := Finset.univ) (S := (src (.X s) c).view.set)
      (Finset.Subset.refl _)) $$ Hs; iintro Hs
  ihave Hs := (x_src m c s f) $$ Hs
  iapply Hk
  isplitl [Hsl]; · iexact Hsl
  isplitl [Hw]; · iexact Hw
  isplitl [Hd]; · iexact Hd
  isplitl [Ha]
  · iexists _; isplitr; rotate_left
    · iexact Ha
    ipureintro; exact hfa
  isplitl [Hxs]
  · iapply Hxs; iapply (emp_xs (F := F) c s); iempintro
  isplitl [How]; · iexact How
  isplitl [Hb]; · iexact Hb
  isplitl [Hla]; · iexact Hla
  isplitl [Hsn]; · iexact Hsn
  isplitl [Hsr Hs]
  · iapply (fam_set (fun t x => srcR m c t x) σ.src (.X s) true)
    isplitl [Hs]; · iexact Hs
    iexact Hsr
  iexact Hrest

/-! ## The sum sent around the ring -/

theorem own_off (c : Dev nD) (s : Fin 4) : k0_off3 c (w256 s) = ![256 * s.val + 64 * (c.val / 8), 0] := by
  revert c s; decide +kernel

/-- The rows of a sub-block that are sent on are rows of the sub-block. -/
theorem own_emb (c : Dev nD) (s : Fin 4) (y : (SR 192).Idx) :
    (oRect c s).emb y = (bRect s).emb ((Rect.unit (s := SR 256) ![64 * (c.val / 8), 0] (SR 192).size (inb2 (x_le64 c))).emb y) := by
  have e := own_off c s
  funext a
  refine Fin.ext ?_
  have h : ((oRect c s).emb y a).val = k0_off3 c (w256 s) a + (y a).val := by simp
  rw [h, e]
  fin_cases a
  · simp; omega
  · simp

theorem own_sub (c : Dev nD) (s : Fin 4) : (oRect c s).set ⊆ (bRect s).set := by
  intro i hi
  have h := Rect.mem_set_unit.mp hi
  rw [own_off] at h
  refine Rect.mem_set_unit.mpr fun a => ?_
  have ha := h a
  have := x_le c
  fin_cases a
  · have h₁ : 256 * s.val + 64 * (c.val / 8) ≤ (i 0).val ∧ (i 0).val < 256 * s.val + 64 * (c.val / 8) + 192 := ha
    show 256 * s.val ≤ (i 0).val ∧ (i 0).val < 256 * s.val + 256
    omega
  · exact ha

/-- They read as rows of what the sub-block reads as. -/
theorem own_read {e : EltTy} (b : View sig .tc .vmem S1024x512 e) (c : Dev nD) (s : Fin 4) (f : b.ty.Contents (Elt F))
    (v : (SR 256).Idx → Elt F e) (h : b.readAt (Elt F) (bRect s).toLoadRect f = v) :
    b.readAt (Elt F) (oRect c s).toLoadRect f
      = fun y => v ((Rect.unit (s := SR 256) ![64 * (c.val / 8), 0] (SR 192).size (inb2 (x_le64 c))).emb y) := by
  subst h
  funext y
  exact congrArg (b.read (Elt F) f) (own_emb c s y)

theorem own_set (c : Dev nD) (s : Fin 4) : (bOwn.access (ownRect s) : View sig .tc _ _ _).set = (src (.I false s) c).view.set := by
  rw [View.set_reshape]

theorem read_win3 {N n : ℕ} (b : Memref sig .tc .vmem ⟨3, ![4, N, 512]⟩ .bf16) (s : Fin 4) (h : 0 + n ≤ N) (f : b.view.ty.Contents (Elt F)) :
    (win3 b s 0 n h).view.read (Elt F) f = shapeCast (SR n) ((b.view.slice (Rect.unit (s := ⟨3, ![4, N, 512]⟩) ![s.val, 0, 0]
      (⟨3, ![1, n, 512]⟩ : Shape).size (inb3 h))).read (Elt F) f) (sq3 n).numel_eq := rfl

theorem own_left (c : Dev nD) (s : Fin 4) (f : Buf (Elt F) ((src (.I false s) c).view.loc (c : Thread nD τ)))
    (h : (src (.I false s) c).view.read (Elt F) f = OWN m c s) :
    ((src (.I false s) c).view.loc (c : Thread nD τ) ↦[(src (.I false s) c).view.set]{fullShare.left} f : sProp 𝕄) ⊢ srcR m c (.I false s) true :=
  Entails.of_eq (src_pts m c (.I false s) fullShare.left _ h)
theorem own_right (c : Dev nD) (s : Fin 4) (f : Buf (Elt F) ((src (.I false s) c).view.loc (c : Thread nD τ)))
    (h : (src (.I false s) c).view.read (Elt F) f = OWN m c s) :
    ((src (.I false s) c).view.loc (c : Thread nD τ) ↦[(src (.I false s) c).view.set]{fullShare.right} f : sProp 𝕄) ⊢ srcR m c (.I true s) true :=
  Entails.of_eq (src_pts m c (.I true s) fullShare.right _ h)

/-- The sum is there for both directions. -/
theorem own_src (c : Dev nD) (s : Fin 4) (f : Buf (Elt F) ((src (.I false s) c).view.loc (c : Thread nD τ)))
    (v : FVec F S1x192x512 .bf16) (hv : shapeCast (SR 192) v (sq3 192).numel_eq = OWN m c s) :
    ((bOwn.access (ownRect s) : View sig .tc _ _ _).loc (c : Thread nD τ) ↦[(src (.I false s) c).view.set]{fullShare}
        (bOwn.access (ownRect s) : View sig .tc _ _ _).write (Elt F) f v Finset.univ : sProp 𝕄)
      ⊢ iprop(srcR m c (.I false s) true ∗ srcR m c (.I true s) true) := by
  have h : (src (.I false s) c).view.read (Elt F) ((bOwn.access (ownRect s) : View sig .tc _ _ _).write (Elt F) f v Finset.univ) = OWN m c s := by
    have e := read_win3 (N := 192) (n := 192) bOwn s (Nat.le_refl 192) ((bOwn.access (ownRect s) : View sig .tc _ _ _).write (Elt F) f v Finset.univ)
    rw [View.read_write_univ, hv] at e
    exact e
  iintro H
  ihave H := (pointsTo_share (PosShare.mem_left_op_right fullShare)).1 $$ H
  icases H with ⟨H₁, H₂⟩
  isplitl [H₁]
  · iapply (own_left m c s _ h); iexact H₁
  · iapply (own_right m c s _ h); iexact H₂

/-- A place that has received can be read. -/
theorem rcv_read (c : Dev nD) (σ : St) (t : Tr) (hr : σ.rcv t = true) :
    (bigSep Finset.univ fun t => rcvR m c t (σ.rcv t)) ⊢ iprop(∃ q : PosShare TreeShare,
      ((dst t).view.loc (c : Thread nD τ) ↦[(dst t).view.set]{q} can m (dst t) c (RV m t c))
        ∗ (((dst t).view.loc (c : Thread nD τ) ↦[(dst t).view.set]{q} can m (dst t) c (RV m t c)) -∗ bigSep Finset.univ fun t => rcvR m c t (σ.rcv t))) := by
  rw [fam_erase t]
  have e : (rcvR m c t (σ.rcv t) : sProp 𝕄) = iprop(semVal (rcvCell c t) 0 ∗ kept m c t) := by rw [hr]; rfl
  rw [e]
  iintro ⟨⟨Hz, Hkept⟩, H⟩
  ihave Hkept := (kept_read m c t) $$ Hkept
  icases Hkept with ⟨%q, Hp, Hb⟩
  iexists q
  isplitl [Hp]; · iexact Hp
  iintro Hp
  isplitl [Hz Hb Hp]
  · isplitl [Hz]; · iexact Hz
    iapply Hb; iexact Hp
  iexact H

theorem own_x_sub (c : Dev nD) (s : Fin 4) : bXr.view.setOn (oRect c s).toLoadRect.set ⊆ (dst (.X s)).view.set := by
  rw [View.set_slice]
  exact Finset.map_subset_map.mpr (own_sub c s)

theorem own_acc (c : Dev nD) (s : Fin 4) (f : FVec F S1024x512 .f32) (h : bAcc.view.readAt (Elt F) (bRect s).toLoadRect f = ACC m c s) :
    bAcc.view.readAt (Elt F) (oRect c s).toLoadRect f = rsub (x_le64 c) (ACC m c s) := own_read bAcc.view c s f (ACC m c s) h
theorem own_xr (c : Dev nD) (s : Fin 4) :
    bXr.view.readAt (Elt F) (oRect c s).toLoadRect (can m (dst (.X s)) c (RV m (.X s) c)) = rsub (x_le64 c) (k0_pay9 (ACC m (xpeer c) s)) :=
  own_read bXr.view c s (can m (dst (.X s)) c (RV m (.X s) c)) (RV m (.X s) c) (read_can m (dst (.X s)) c _)

/-- The sum made ready for the ring. -/
theorem step_own (c : Dev nD) (σ : St) (s : Fin 4) (hg : s.val < σ.g) (ho : σ.own s = false) (hr : σ.rcv (.X s) = true)
    (k : KProg F) (Q : PUnit → sProp 𝕄) :
    iprop(ctx m K ∗ Inv m c σ)
      ⊢ iprop((Inv m c { σ with own := Function.update σ.own s true,
                                src := Function.update (Function.update σ.src (.I false s) true) (.I true s) true } -∗ WP c k Q)
        -∗ WP c (exec c (.own s) k) Q) := by
  unfold Inv exec
  iintro ⟨#Hx, Hsl, Hw, Hd, Ha, Hxs, How, Hb, Hla, Hsn, Hsr, Hrc, Hrest⟩ Hk
  ihave How := (fam_upd (fun s x => ownR (F := F) c s x) σ.own s) $$ How
  icases How with ⟨Hs, How⟩
  have e : (ownR c s (σ.own s) : sProp 𝕄) = srcRaw c (.I false s) := by rw [ho]; rfl
  ihave Hs := (Entails.of_eq e) $$ Hs
  unfold srcRaw
  icases Hs with ⟨%f, Hs⟩
  unfold accR
  icases Ha with ⟨%fa, %hfa, Ha⟩
  iapply (wp_load 𝒱₀ (c : Thread nD τ) none Set.univ (m := bAcc) (Finset.subset_univ _)) $$ Ha; iintro Ha
  rw [own_acc m c s fa (hfa s hg)]
  ihave Hrc := (rcv_read m c σ (.X s) hr) $$ Hrc
  icases Hrc with ⟨%q, Hp, Hrc⟩
  iapply (wp_load 𝒱₀ (c : Thread nD τ) none Set.univ (m := bXr) (S := (dst (.X s)).view.set) (own_x_sub c s)) $$ Hp; iintro Hp
  rw [own_xr m c s]
  ihave Hrc := Hrc $$ Hp
  iapply (wp_load 𝒱₀ (c : Thread nD τ) none Set.univ (m := bOwn) (S := (src (.I false s) c).view.set)
    (by rw [View.set_reshape, View.set_slice]; exact Finset.Subset.refl _)) $$ Hs; iintro Hs
  iapply (wp_store 𝒱₀ (c : Thread nD τ) none Set.univ (m := bOwn) (r := ownRect s) (Mk := Finset.univ) (S := (src (.I false s) c).view.set)
    (by rw [View.setOn_univ, own_set c s])) $$ Hs; iintro Hs
  ihave Hs := (own_src m c s f _ rfl) $$ Hs
  icases Hs with ⟨H₁, H₂⟩
  iapply Hk
  isplitl [Hsl]; · iexact Hsl
  isplitl [Hw]; · iexact Hw
  isplitl [Hd]; · iexact Hd
  isplitl [Ha]
  · iexists _; isplitr; rotate_left
    · iexact Ha
    ipureintro; exact hfa
  isplitl [Hxs]; · iexact Hxs
  isplitl [How]
  · iapply How; iapply (emp_own (F := F) c s); iempintro
  isplitl [Hb]; · iexact Hb
  isplitl [Hla]; · iexact Hla
  isplitl [Hsn]; · iexact Hsn
  isplitl [Hsr H₁ H₂]
  · iapply (fam_set (fun t x => srcR m c t x) (Function.update σ.src (.I false s) true) (.I true s) true)
    isplitl [H₂]; · iexact H₂
    iapply (fam_set (fun t x => srcR m c t x) σ.src (.I false s) true)
    isplitl [H₁] <;> iassumption
  isplitl [Hrc]; · iexact Hrc
  iexact Hrest

/-! ## Pieces of the result -/

/-- Store a piece. -/
theorem out_store (c : Dev nD) (p : Pc) (l : List Pc) (k : KProg F) (Q : PUnit → sProp 𝕄) :
    outR m c l ⊢ iprop((outR m c (p :: l) -∗ WP c k Q) -∗ WP c (stOut c p (PV m c p) k) Q) := by
  unfold outR stOut
  iintro ⟨%g, Ho⟩ Hk
  iapply (wp_load 𝒱₀ (c : Thread nD τ) none Set.univ (m := bOut) (Finset.subset_univ _)) $$ Ho; iintro Ho
  iapply (wp_store 𝒱₀ (c : Thread nD τ) none Set.univ (m := bOut) (r := pRect p c) (Mk := Finset.univ) (Finset.subset_univ _)) $$ Ho; iintro Ho
  iapply Hk
  iexists g
  iexact Ho

/-- Read a landing place. -/
theorem ld_read (c : Dev nD) {J N : ℕ} (b : Memref sig .tc .vmem ⟨4, ![4, J, N, 512]⟩ .bf16) (s : Fin 4) (j : Fin J) (n : ℕ) (hn : 0 < n)
    (h : 0 + n ≤ N) (v : FVec F (SR n) .bf16) (q : PosShare TreeShare) (k : FVec F (SR n) .bf16 → KProg F) (Q : PUnit → sProp 𝕄) :
    ((win4 b s j 0 n h).view.loc (c : Thread nD τ) ↦[(win4 b s j 0 n h).view.set]{q} can m (win4 b s j 0 n h) c v : sProp 𝕄)
      ⊢ iprop((((win4 b s j 0 n h).view.loc (c : Thread nD τ) ↦[(win4 b s j 0 n h).view.set]{q} can m (win4 b s j 0 n h) c v) -∗ WP c (k v) Q)
        -∗ WP c (ld4 b s j n hn h k) Q) := by
  unfold ld4
  iintro H Hk
  iapply (wp_load 𝒱₀ (c : Thread nD τ) none Set.univ (m := b) (S := (win4 b s j 0 n h).view.set)
    (by rw [View.set_reshape, View.set_slice]; exact Finset.Subset.refl _)) $$ H; iintro H
  have e : shapeCast (SR n) (b.view.readAt (Elt F) (Rect.unit (s := ⟨4, ![4, J, N, 512]⟩) ![s.val, j.val, 0, 0]
      (⟨4, ![1, 1, n, 512]⟩ : Shape).size (inb4 h)).toLoadRect (can m (win4 b s j 0 n h) c v)) (sq4 n).numel_eq = v :=
    read_can m (win4 b s j 0 n h) c v
  rw [e]
  iapply Hk; iexact H

/-- Store a piece read from a landing place. -/
theorem piece_ld (c : Dev nD) (σ : St) (p : Pc) (hr : σ.rcv (need p) = true) (k : KProg F) (Q : PUnit → sProp 𝕄)
    (hld : ∀ q, ((dst (need p)).view.loc (c : Thread nD τ) ↦[(dst (need p)).view.set]{q} can m (dst (need p)) c (RV m (need p) c) : sProp 𝕄)
      ⊢ iprop((((dst (need p)).view.loc (c : Thread nD τ) ↦[(dst (need p)).view.set]{q} can m (dst (need p)) c (RV m (need p) c))
          -∗ WP c (stOut c p (PV m c p) k) Q) -∗ WP c (execPiece c p k) Q)) :
    iprop(ctx m K ∗ Inv m c σ) ⊢ iprop((Inv m c { σ with out := p :: σ.out } -∗ WP c k Q) -∗ WP c (exec c (.piece p) k) Q) := by
  unfold Inv exec
  iintro ⟨#Hx, Hsl, Hw, Hd, Ha, Hxs, How, Hb, Hla, Hsn, Hsr, Hrc, Hout, Hrest⟩ Hk
  ihave Hrc := (rcv_read m c σ (need p) hr) $$ Hrc
  icases Hrc with ⟨%q, Hp, Hrc⟩
  ihave Hw' := (hld q) $$ Hp
  iapply Hw'; iintro Hp
  ihave Hrc := Hrc $$ Hp
  iapply (out_store m c p σ.out k Q) $$ Hout; iintro Hout
  iapply Hk
  isplitl [Hsl]; · iexact Hsl
  isplitl [Hw]; · iexact Hw
  isplitl [Hd]; · iexact Hd
  isplitl [Ha]; · iexact Ha
  isplitl [Hxs]; · iexact Hxs
  isplitl [How]; · iexact How
  isplitl [Hb]; · iexact Hb
  isplitl [Hla]; · iexact Hla
  isplitl [Hsn]; · iexact Hsn
  isplitl [Hsr]; · iexact Hsr
  isplitl [Hrc]; · iexact Hrc
  isplitl [Hout]; · iexact Hout
  iexact Hrest

/-- Store the device's own sub-block. -/
theorem piece_fin (c : Dev nD) (σ : St) (s : Fin 4) (hg : s.val < σ.g) (hr : σ.rcv (.X s) = true) (k : KProg F) (Q : PUnit → sProp 𝕄) :
    iprop(ctx m K ∗ Inv m c σ) ⊢ iprop((Inv m c { σ with out := .fin s :: σ.out } -∗ WP c k Q) -∗ WP c (exec c (.piece (.fin s)) k) Q) := by
  unfold Inv exec execPiece
  iintro ⟨#Hx, Hsl, Hw, Hd, Ha, Hxs, How, Hb, Hla, Hsn, Hsr, Hrc, Hout, Hrest⟩ Hk
  unfold accR
  icases Ha with ⟨%fa, %hfa, Ha⟩
  iapply (wp_load 𝒱₀ (c : Thread nD τ) none Set.univ (m := bAcc) (Finset.subset_univ _)) $$ Ha; iintro Ha
  rw [hfa s hg]
  ihave Hrc := (rcv_read m c σ (.X s) hr) $$ Hrc
  icases Hrc with ⟨%q, Hp, Hrc⟩
  iapply (wp_load 𝒱₀ (c : Thread nD τ) none Set.univ (m := bXr) (S := (dst (.X s)).view.set)
    (by rw [View.set_slice]; exact Finset.Subset.refl _)) $$ Hp; iintro Hp
  have e : bXr.view.readAt (Elt F) (bRect s).toLoadRect (can m (dst (.X s)) c (RV m (.X s) c)) = RV m (.X s) c :=
    read_can m (dst (.X s)) c (RV m (.X s) c)
  rw [e]
  ihave Hrc := Hrc $$ Hp
  have hs : outR m c σ.out ⊢ iprop((outR m c (.fin s :: σ.out) -∗ WP c k Q)
      -∗ WP c (stOut c (.fin s) (k0_pay14 (ACC m c s) (RV m (.X s) c)) k) Q) := out_store m c (.fin s) σ.out k Q
  iapply hs $$ Hout; iintro Hout
  iapply Hk
  isplitl [Hsl]; · iexact Hsl
  isplitl [Hw]; · iexact Hw
  isplitl [Hd]; · iexact Hd
  isplitl [Ha]
  · iexists _; isplitr; rotate_left
    · iexact Ha
    ipureintro; exact hfa
  isplitl [Hxs]; · iexact Hxs
  isplitl [How]; · iexact How
  isplitl [Hb]; · iexact Hb
  isplitl [Hla]; · iexact Hla
  isplitl [Hsn]; · iexact Hsn
  isplitl [Hsr]; · iexact Hsr
  isplitl [Hrc]; · iexact Hrc
  isplitl [Hout]; · iexact Hout
  iexact Hrest

/-- Store a piece of the result. -/
theorem step_piece (c : Dev nD) (σ : St) (k : KProg F) (Q : PUnit → sProp 𝕄) : ∀ (p : Pc) (hg : needG p ≤ σ.g) (hr : σ.rcv (need p) = true),
    iprop(ctx m K ∗ Inv m c σ) ⊢ iprop((Inv m c { σ with out := p :: σ.out } -∗ WP c k Q) -∗ WP c (exec c (.piece p) k) Q)
  | .fin s, hg, hr => piece_fin m K c σ s hg hr k Q
  | .put d s 0, hg, hr => piece_ld m K c σ _ hr k Q fun q => by
    have e : PV m c (.put d s 0) = RV m (.I d s) c := (RV_ring m d s c).symm
    rw [e]
    exact ld_read m c (J := 4) (N := 192) (bRing d) s 0 192 (by decide) (by decide) (RV m (.I d s) c) q (fun v => stOut c (.put d s 0) v k) Q
  | .put d s 1, hg, hr => piece_ld m K c σ _ hr k Q fun q => by
    have e : PV m c (.put d s 1) = RV m (.C d s 0) c := (RV_C m d s 0 c).symm
    rw [e]
    exact ld_read m c (J := 4) (N := 192) (bRing d) s 1 192 (by decide) (by decide) (RV m (.C d s 0) c) q (fun v => stOut c (.put d s 1) v k) Q
  | .put d s 2, hg, hr => piece_ld m K c σ _ hr k Q fun q => by
    have e : PV m c (.put d s 2) = RV m (.C d s 1) c := (RV_C m d s 1 c).symm
    rw [e]
    exact ld_read m c (J := 4) (N := 192) (bRing d) s 2 192 (by decide) (by decide) (RV m (.C d s 1) c) q (fun v => stOut c (.put d s 2) v k) Q
  | .putE false s, hg, hr => piece_ld m K c σ _ hr k Q fun q =>
    ld_read m c (J := 4) (N := 192) (bRing false) s 3 128 (by decide) (by decide) (RV m (.E false s) c) q (fun v => stOut c (.putE false s) v k) Q
  | .putE true s, hg, hr => piece_ld m K c σ _ hr k Q fun q =>
    ld_read m c (J := 4) (N := 192) (bRing true) s 3 64 (by decide) (by decide) (RV m (.E true s) c) q (fun v => stOut c (.putE true s) v k) Q
  | .putM d s h, hg, hr => piece_ld m K c σ _ hr k Q fun q =>
    ld_read m c (J := 7) (N := 64) bM s (mSlot d h) 64 (by decide) (by decide) (RV m (.M d s h) c) q (fun v => stOut c (.putM d s h) v k) Q
  | .putZ s, hg, hr => piece_ld m K c σ _ hr k Q fun q =>
    ld_read m c (J := 7) (N := 64) bM s 6 64 (by decide) (by decide) (RV m (.Z s) c) q (fun v => stOut c (.putZ s) v k) Q

end Cert.AllReduce
-- ==== Proof.Sync.lean ====
/-
The instructions that synchronise devices: the barrier, the copies and the waits for them.
-/
module

public import proofs.«01_k».proof.Proof.Inv

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ) (K : Dev nD × Cl → ℕ)

/-! ## The order of the copies -/

theorem order_nodup : order.Nodup := by decide +kernel
theorem pos_drop {n : ℕ} {t : Tr} (h : t ∈ order.drop n) : n ≤ pos t := by
  obtain ⟨i, hi, rfl⟩ := List.mem_iff_getElem.mp h
  rw [List.getElem_drop]
  unfold pos
  rw [order_nodup.idxOf_getElem]
  exact Nat.le_add_right _ _

theorem owed_true (c : Dev nD) (n : ℕ) : owed c true n = dues c (order.drop n) := if_pos rfl
theorem owed_false (c : Dev nD) (n : ℕ) : owed c false n = O₀ c := if_neg Bool.false_ne_true

theorem kept_src (c : Dev nD) (f : Tr → Bool) (u : Option Tr) :
    iprop(optR m c u ∗ bigSep Finset.univ fun t => srcR m c t (f t)) ⊢ bigSep Finset.univ fun t => srcR m c t (lend f u t) := by
  cases u with
  | none => iintro ⟨-, H⟩; iexact H
  | some t => exact fam_set (fun t x => srcR m c t x) f t true

theorem rcvR_true (c : Dev nD) (t : Tr) : iprop(semVal (rcvCell c t) 0 ∗ kept m c t) ⊢ rcvR m c t true := .rfl
theorem sndR_sent (c : Dev nD) (t : Tr) : iprop(cred (tallyAt (sndCell c t) () (crd t)) ∗ atPos ER (sndCell c t) 0 ∅ 0) ⊢ (sndR c t .sent : sProp 𝕄) := .rfl
theorem sndR_done (c : Dev nD) (t : Tr) : semVal (sndCell c t) 0 ⊢ (sndR c t .done : sProp 𝕄) := .rfl
theorem srcR_true (c : Dev nD) (t : Tr) : srcPts m c t ⊢ srcR m c t true := .rfl

theorem landR_false (c : Dev nD) (t : Tr) : iprop(emp) ⊢ (landR c t false : sProp 𝕄) := .rfl
theorem srcR_false (c : Dev nD) (t : Tr) : iprop(emp) ⊢ srcR m c t false := .rfl

/-! ## Receives -/

/-- What a device holds after a copy has arrived, what it is to pass on set apart. -/
theorem step_rcv (c : Dev nD) (σ : St) (t : Tr) (hb : σ.bar = true) (hr : σ.rcv t = false) (hp : pos t < σ.n)
    (k : KProg F) (Q : PUnit → sProp 𝕄) :
    iprop(ctx m K ∗ Inv m c σ)
      ⊢ iprop((Inv m c { σ with rcv := Function.update σ.rcv t true, src := lend (lend σ.src (u₁ t)) (u₂ t) } -∗ WP c k Q)
          -∗ WP c (exec c (.rcv t) k) Q) := by
  unfold Inv exec
  iintro ⟨#Hx, Hsl, Hw, Hd, Ha, Hxs, How, Hb, Hla, Hsn, Hsr, Hrc, Hou, Ho⟩ Hk
  ihave Hrc := (fam_upd (fun t x => rcvR m c t x) σ.rcv t) $$ Hrc
  icases Hrc with ⟨Hr, Hrc⟩
  have e : (rcvR m c t (σ.rcv t) : sProp 𝕄) = iprop(atPos ER (rcvCell c t) 0 ∅ 0 ∗ cred (tallyAt (rcvCell c t) () (crd t))) := by
    rw [hr]; rfl
  ihave Hr := (Entails.of_eq e) $$ Hr
  icases Hr with ⟨Hat, Hc⟩
  unfold owesR
  icases Ho with ⟨%W, Ho⟩
  rw [hb, owed_true]
  ihave #Hi := (ctx_inv m K (c, some (true, t))) $$ Hx
  iapply (Rounds.wp_wait_rest_token 𝒱₀ ER (rd m) (c : Thread nD τ) none (κ := K (c, some (true, t)))
      (wpE_waitDma2_eq 𝒱₀ (c : Thread nD τ) none Set.univ) (Set.mem_univ _) () (O := dues c (order.drop σ.n)) (W := W) (R := 0) (m := 0)
      (T := ∅) (by rw [Nat.zero_add, expect_rcv])) $$ [Hc Ho Hat]
  · isplitr; · iexact Hi
    isplitl [Hc]; · iexact Hc
    isplitl [Ho]; · iexact Ho
    isplitr
    · iapply (mayWait_dues c (.dma (rcvSem t)) (order.drop σ.n) fun t' ht' => by
        rw [lvS_rcv]; have := pos_drop ht'; omega)
      iapply (ctx_lev m K); iexact Hx
    iexact Hat
  iintro ⟨Ho, Hat, -, Hpay⟩
  ihave Hpay := (Entails.of_eq (rest_rcv m c t)) $$ Hpay
  imod (Rounds.cell_close ER (rd m) (Set.mem_univ (K (c, some (true, t)))) (fun h => h) (R := 0 + 1) (duties_later m (rcvCell c t))) $$ [Hat] with Hz
  · isplitr; · iexact Hi
    iexact Hat
  ihave Hpay := (carve m c t).1 $$ Hpay
  icases Hpay with ⟨⟨H₁, H₂⟩, Hkept⟩
  iapply Hk
  isplitl [Hsl]; · iexact Hsl
  isplitl [Hw]; · iexact Hw
  isplitl [Hd]; · iexact Hd
  isplitl [Ha]; · iexact Ha
  isplitl [Hxs]; · iexact Hxs
  isplitl [How]; · iexact How
  isplitl [Hb]; · iexact Hb
  isplitl [Hla]; · iexact Hla
  isplitl [Hsn]; · iexact Hsn
  isplitl [Hsr H₁ H₂]
  · iapply (kept_src m c (lend σ.src (u₁ t)) (u₂ t))
    isplitl [H₂]; · iexact H₂
    iapply (kept_src m c σ.src (u₁ t))
    isplitl [H₁] <;> iassumption
  isplitl [Hrc Hz Hkept]
  · iapply Hrc
    iapply (rcvR_true m c t)
    isplitl [Hz] <;> iassumption
  isplitl [Hou]; · iexact Hou
  iexists _; iexact Ho

/-! ## Waits for one's own sends -/

/-- What a device holds after a send has been waited for: what was sent is there again. -/
theorem step_swt (c : Dev nD) (σ : St) (t : Tr) (hb : σ.bar = true) (hs : σ.snd t = .sent) (k : KProg F) (Q : PUnit → sProp 𝕄) :
    iprop(ctx m K ∗ Inv m c σ)
      ⊢ iprop((Inv m c { σ with snd := Function.update σ.snd t .done, src := Function.update σ.src t true } -∗ WP c k Q)
          -∗ WP c (exec c (.swt t) k) Q) := by
  unfold Inv exec
  iintro ⟨#Hx, Hsl, Hw, Hd, Ha, Hxs, How, Hb, Hla, Hsn, Hsr, Hrc, Hou, Ho⟩ Hk
  ihave Hsn := (fam_upd (fun t x => sndR (F := F) c t x) σ.snd t) $$ Hsn
  icases Hsn with ⟨Hs, Hsn⟩
  have e : (sndR c t (σ.snd t) : sProp 𝕄) = iprop(cred (tallyAt (sndCell c t) () (crd t)) ∗ atPos ER (sndCell c t) 0 ∅ 0) := by
    rw [hs]; rfl
  ihave Hs := (Entails.of_eq e) $$ Hs
  icases Hs with ⟨Hc, Hat⟩
  unfold owesR
  icases Ho with ⟨%W, Ho⟩
  ihave #Hi := (ctx_inv m K (c, some (false, t))) $$ Hx
  iapply (Rounds.wp_wait_rest_token 𝒱₀ ER (rd m) (c : Thread nD τ) none (κ := K (c, some (false, t)))
      (wpE_waitDma2_eq 𝒱₀ (c : Thread nD τ) none Set.univ) (Set.mem_univ _) () (O := owed c σ.bar σ.n) (W := W) (R := 0) (m := 0)
      (T := ∅) (by rw [Nat.zero_add, expect_snd, crd_src])) $$ [Hc Ho Hat]
  · isplitr; · iexact Hi
    isplitl [Hc]; · rw [crd_src]; iexact Hc
    isplitl [Ho]; · iexact Ho
    isplitr
    · iapply (ctx_wait m K c (.dma (sndSem t)) (lvS_snd t) σ.bar σ.n); iexact Hx
    iexact Hat
  iintro ⟨Ho, Hat, -, Hpay⟩
  ihave Hpay := (Entails.of_eq (rest_snd m c t)) $$ Hpay
  imod (Rounds.cell_close ER (rd m) (Set.mem_univ (K (c, some (false, t)))) (fun h => h) (R := 0 + 1) (duties_later m (sndCell c t))) $$ [Hat] with Hz
  · isplitr; · iexact Hi
    iexact Hat
  iapply Hk
  isplitl [Hsl]; · iexact Hsl
  isplitl [Hw]; · iexact Hw
  isplitl [Hd]; · iexact Hd
  isplitl [Ha]; · iexact Ha
  isplitl [Hxs]; · iexact Hxs
  isplitl [How]; · iexact How
  isplitl [Hb]; · iexact Hb
  isplitl [Hla]; · iexact Hla
  isplitl [Hsn Hz]
  · iapply Hsn; iapply (sndR_done (F := F) c t); iexact Hz
  isplitl [Hsr Hpay]
  · iapply (fam_set (fun t x => srcR m c t x) σ.src t true)
    isplitl [Hpay]; · iapply (srcR_true m c t); iexact Hpay
    iexact Hsr
  isplitl [Hrc]; · iexact Hrc
  isplitl [Hou]; · iexact Hou
  iexists _; iexact Ho

/-! ## Copies -/

theorem dues_drop (c : Dev nD) {n : ℕ} {t : Tr} (h : order[n]? = some t) :
    dues c (order.drop n) = dues c (order.drop (n + 1)) + tallyAt (rcvCell (peer t c) t) () (crd t) := by
  obtain ⟨hn, e⟩ := List.getElem?_eq_some_iff.mp h
  rw [List.drop_eq_getElem_cons hn, e]; rfl

/-- What lies at the addressee once a copy has landed. -/
theorem landed_pts (c : Dev nD) (t : Tr) (f : Buf (Elt F) ((dst t).view.loc (peer t c : Thread nD τ))) :
    ((dst t).view.loc (peer t c : Thread nD τ) ↦[(dst t).view.set]{fullShare}
        (dst t).view.write (Elt F) f ((src t c).view.read (Elt F) (can m (src t c) c (SV m t c))) Finset.univ : sProp 𝕄)
      = dstPts m (peer t c) t := by
  unfold dstPts
  rw [read_can, RV_peer]
  exact pointsTo_congr (can_congr m (dst t) (peer t c) (SV m t c) _ (View.read_write_univ _ _))

/-- What a device holds after a copy is on its way. -/
theorem step_snd (c : Dev nD) (σ : St) (t : Tr) (hb : σ.bar = true) (hl : σ.land t = true) (hs : σ.snd t = .ready)
    (hr : σ.src t = true) (hn : order[σ.n]? = some t) (k : KProg F) (Q : PUnit → sProp 𝕄) :
    iprop(ctx m K ∗ Inv m c σ)
      ⊢ iprop((Inv m c { σ with land := Function.update σ.land t false, snd := Function.update σ.snd t .sent,
                                src := Function.update σ.src t false, n := σ.n + 1 } -∗ WP c k Q)
          -∗ WP c (exec c (.snd t) k) Q) := by
  unfold Inv exec
  iintro ⟨#Hx, Hsl, Hw, Hd, Ha, Hxs, How, Hb, Hla, Hsn, Hsr, Hrc, Hou, Ho⟩ Hk
  ihave Hla := (fam_upd (fun t x => landR (F := F) c t x) σ.land t) $$ Hla
  icases Hla with ⟨Hl, Hla⟩
  ihave Hsn := (fam_upd (fun t x => sndR (F := F) c t x) σ.snd t) $$ Hsn
  icases Hsn with ⟨Hs, Hsn⟩
  ihave Hsr := (fam_upd (fun t x => srcR m c t x) σ.src t) $$ Hsr
  icases Hsr with ⟨Hr, Hsr⟩
  have e₁ : (landR c t (σ.land t) : sProp 𝕄) = dstRaw (peer t c) t := by rw [hl]; rfl
  have e₂ : (sndR c t (σ.snd t) : sProp 𝕄)
      = iprop(dutyTok ER (sndCell c t) 0 0 ∗ dutyTok ER (rcvCell (peer t c) t) 0 0 ∗ atPos ER (sndCell c t) 0 ∅ 0) := by rw [hs]; rfl
  have e₃ : (srcR m c t (σ.src t) : sProp 𝕄) = srcPts m c t := by rw [hr]; rfl
  ihave Hl := (Entails.of_eq e₁) $$ Hl
  ihave Hs := (Entails.of_eq e₂) $$ Hs
  ihave Hr := (Entails.of_eq e₃) $$ Hr
  icases Hs with ⟨Hts, Htr, Hat⟩
  unfold owesR
  icases Ho with ⟨%W, Ho⟩
  rw [hb, owed_true, owed_true]
  unfold dstRaw srcPts
  icases Hl with ⟨%f, Hl⟩
  ihave #Hi := (ctx_inv m K (c, some (false, t))) $$ Hx
  ihave #Hi' := (ctx_inv m K (peer t c, some (true, t))) $$ Hx
  ihave #Hm := (ctx_reached m K (c, some (false, t))) $$ Hx
  ihave #Hm' := (ctx_reached m K (peer t c, some (true, t))) $$ Hx
  iapply (Rounds.wp_send_pointsTo 𝒱₀ ER (rd m) (c : Thread nD τ) none (κ₁ := K (c, some (false, t))) (κ₂ := K (peer t c, some (true, t)))
      (r₁ := 0) (r₂ := 0) (d₁ := 0) (d₂ := 0) (fd := f)
      (by rw [duties_snd]; exact Finset.mem_singleton_self _) (by rw [duties_rcv]; exact Finset.mem_singleton_self _)
      () () (crd t) rfl (amount_snd m c t 0) (amount_rcv m (peer t c) t 0) (dues c (order.drop (σ.n + 1))) (dues_drop c hn) (W := W)
      (by rw [payload_snd]; unfold srcPts; exact BI.Entails.refl _)
      (by rw [payload_rcv]; exact Entails.of_eq (landed_pts m c t f))) $$ [Hr Hl Ho Hts Htr]
  · isplitr; · iexact Hi
    isplitr; · iexact Hi'
    isplitl [Hr]; · iexact Hr
    isplitl [Hl]; · iexact Hl
    isplitl [Ho]; · iexact Ho
    isplitl [Hts]; · iexact Hts
    isplitr; · iexact Hm
    isplitl [Htr]; · iexact Htr
    iexact Hm'
  iintro ⟨Hc, Ho⟩
  iapply Hk
  isplitl [Hsl]; · iexact Hsl
  isplitl [Hw]; · iexact Hw
  isplitl [Hd]; · iexact Hd
  isplitl [Ha]; · iexact Ha
  isplitl [Hxs]; · iexact Hxs
  isplitl [How]; · iexact How
  isplitl [Hb]; · iexact Hb
  isplitl [Hla]
  · iapply Hla; iapply (landR_false (F := F) c t); iempintro
  isplitl [Hsn Hc Hat]
  · iapply Hsn; iapply (sndR_sent (F := F) c t)
    isplitl [Hc] <;> iassumption
  isplitl [Hsr]
  · iapply Hsr; iapply (srcR_false m c t); iempintro
  isplitl [Hrc]; · iexact Hrc
  isplitl [Hou]; · iexact Hou
  iexists _; iexact Ho

/-! ## The barrier -/

theorem barR_true (c : Dev nD) : semVal (barCell c) 0 ⊢ (barR c true : sProp 𝕄) := .rfl
theorem lands_all (c : Dev nD) : (bigSep Finset.univ fun t : Tr => dstRaw (peer t c) t) ⊢ (bigSep Finset.univ fun t => landR c t true : sProp 𝕄) := .rfl
theorem fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

/-- What a device hands to the device it signals: the landing places of the copies that device sends it. -/
theorem lands_split (c : Dev nD) : (bigSep Finset.univ fun t : Tr => dstRaw (F := F) c t)
    ⊢ iprop(barPay (F := F) (xpeer c) 0 ∗ barPay (F := F) (nxt c) 1 ∗ barPay (F := F) (prv c) 2) := by
  have e (k : Fin 3) : (barPay (kp k c) k : sProp 𝕄) = bigSep (Finset.univ.filter fun t : Tr => kind t = k) fun t => dstRaw c t := by
    unfold barPay
    refine bigSep_congr fun t ht => ?_
    have hk : kind t = k := (Finset.mem_filter.mp ht).2
    rw [← hk, kp_kind, peer_frm]
  have hf := bigSep_fiberwise (M := 𝕄) (Finset.univ : Finset Tr) kind (Φ := fun t => dstRaw (F := F) c t)
  rw [show Finset.univ.image kind = (Finset.univ : Finset (Fin 3)) from by decide] at hf
  rw [hf, fin3, ← e 0, ← e 1, ← e 2]
  exact .rfl

/-- What a device holds after the barrier: the landing places of every copy it is to send. -/
theorem step_bar (c : Dev nD) (σ : St) (hb : σ.bar = false) (k : KProg F) (Q : PUnit → sProp 𝕄) :
    iprop(ctx m K ∗ Inv m c σ)
      ⊢ iprop((Inv m c { σ with bar := true, land := fun _ => true, n := 0 } -∗ WP c k Q)
          -∗ WP c (exec c .bar k) Q) := by
  unfold Inv exec
  iintro ⟨#Hx, Hsl, Hw, Hd, Ha, Hxs, How, Hb, -, Hsn, Hsr, Hrc, Hou, Ho⟩ Hk
  unfold owesR
  icases Ho with ⟨%W, Ho⟩
  have e₁ : (barR c σ.bar : sProp 𝕄) = iprop(atPos ER (barCell c) 0 ∅ 0 ∗ cred (tallyAt (barCell c) () 3)
      ∗ (dutyTok ER (barCell (xpeer c)) 0 0 ∗ dutyTok ER (barCell (nxt c)) 0 1 ∗ dutyTok ER (barCell (prv c)) 0 2)
      ∗ bigSep Finset.univ fun t : Tr => dstRaw (F := F) c t) := by rw [hb]; rfl
  ihave Hb := (Entails.of_eq e₁) $$ Hb
  icases Hb with ⟨Hat, Hc, ⟨Ht₀, Ht₁, Ht₂⟩, Hlands⟩
  ihave Hlands := (lands_split (F := F) c) $$ Hlands
  icases Hlands with ⟨Hl₀, Hl₁, Hl₂⟩
  rw [hb, owed_false, owed_true]
  ihave #Hi := (ctx_inv m K (c, none)) $$ Hx
  ihave #Hi₀ := (ctx_inv m K (xpeer c, none)) $$ Hx
  ihave #Hi₁ := (ctx_inv m K (nxt c, none)) $$ Hx
  ihave #Hi₂ := (ctx_inv m K (prv c, none)) $$ Hx
  ihave #Hm₀ := (ctx_reached m K (xpeer c, none)) $$ Hx
  ihave #Hm₁ := (ctx_reached m K (nxt c, none)) $$ Hx
  ihave #Hm₂ := (ctx_reached m K (prv c, none)) $$ Hx
  iapply (Rounds.wp_signal 𝒱₀ ER (rd m) (c : Thread nD τ) none (dst := (xpeer c : Thread nD τ)) (κ := K (xpeer c, none))
      (d := 0) (by rw [duties_bar]; exact Finset.mem_univ _) (amount_bar m (xpeer c) 0) () (O₂ c) rfl) $$ [Ho Ht₀ Hl₀]
  · isplitr; · iexact Hi₀
    isplitl [Ho]; · iexact Ho
    isplitl [Ht₀]; · iexact Ht₀
    isplitl [Hl₀]; · rw [payload_bar]; iexact Hl₀
    iexact Hm₀
  iintro Ho
  iapply (Rounds.wp_signal 𝒱₀ ER (rd m) (c : Thread nD τ) none (dst := (nxt c : Thread nD τ)) (κ := K (nxt c, none))
      (d := 1) (by rw [duties_bar]; exact Finset.mem_univ _) (amount_bar m (nxt c) 1) () (O₁ c) rfl) $$ [Ho Ht₁ Hl₁]
  · isplitr; · iexact Hi₁
    isplitl [Ho]; · iexact Ho
    isplitl [Ht₁]; · iexact Ht₁
    isplitl [Hl₁]; · rw [payload_bar]; iexact Hl₁
    iexact Hm₁
  iintro Ho
  iapply (Rounds.wp_signal 𝒱₀ ER (rd m) (c : Thread nD τ) none (dst := (prv c : Thread nD τ)) (κ := K (prv c, none))
      (d := 2) (by rw [duties_bar]; exact Finset.mem_univ _) (amount_bar m (prv c) 2) () (dues c order) rfl) $$ [Ho Ht₂ Hl₂]
  · isplitr; · iexact Hi₂
    isplitl [Ho]; · iexact Ho
    isplitl [Ht₂]; · iexact Ht₂
    isplitl [Hl₂]; · rw [payload_bar]; iexact Hl₂
    iexact Hm₂
  iintro Ho
  iapply (Rounds.wp_wait_rest_token 𝒱₀ ER (rd m) (c : Thread nD τ) none (κ := K (c, none))
      (wpE_semWait_eq 𝒱₀ (c : Thread nD τ) none Set.univ) (Set.mem_univ _) () (O := dues c order) (W := W) (R := 0) (m := 0) (T := ∅)
      (by rw [expect_bar])) $$ [Hc Ho Hat]
  · isplitr; · iexact Hi
    isplitl [Hc]; · iexact Hc
    isplitl [Ho]; · iexact Ho
    isplitr
    · iapply (mayWait_dues c (.reg barS) order fun t _ => by rw [lvS_bar]; omega)
      iapply (ctx_lev m K); iexact Hx
    iexact Hat
  iintro ⟨Ho, Hat, -, Hpay⟩
  ihave Hpay := (rest_bar m c) $$ Hpay
  imod (Rounds.cell_close ER (rd m) (Set.mem_univ (K (c, none))) (fun h => h) (R := 0 + 1) (duties_later m (barCell c))) $$ [Hat] with Hz
  · isplitr; · iexact Hi
    iexact Hat
  iapply Hk
  isplitl [Hsl]; · iexact Hsl
  isplitl [Hw]; · iexact Hw
  isplitl [Hd]; · iexact Hd
  isplitl [Ha]; · iexact Ha
  isplitl [Hxs]; · iexact Hxs
  isplitl [How]; · iexact How
  isplitl [Hz]; · iapply (barR_true (F := F) c); iexact Hz
  isplitl [Hpay]; · iapply (lands_all (F := F) c); iexact Hpay
  isplitl [Hsn]; · iexact Hsn
  isplitl [Hsr]; · iexact Hsr
  isplitl [Hrc]; · iexact Hrc
  isplitl [Hou]; · iexact Hou
  iexists _; iexact Ho

end Cert.AllReduce
-- ==== Proof.Run.lean ====
/-
The body of a device, run.
-/
module

public import proofs.«01_k».proof.Proof.Sums
public import proofs.«01_k».proof.Proof.Sync
public import proofs.«01_k».proof.Proof.Machine

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ)

/-- An instruction the machine may run runs, and leaves what the machine says. -/
theorem step_ok (c : Dev nD) (σ σ' : St) (i : Ins) (h : step σ i = some σ') (k : KProg F) (Q : PUnit → sProp 𝕄) :
    iprop(ctx m K ∗ Inv m c σ) ⊢ iprop((Inv m c σ' -∗ WP c k Q) -∗ WP c (exec c i k) Q) := by
  cases i with
  | ldS q =>
    simp only [step] at h; split_ifs at h with g; cases h
    exact step_ldS m K c σ q g k Q
  | ldF q =>
    cases q with
    | W i =>
      simp only [step] at h; split_ifs at h with g; cases h
      exact step_ldW m K c σ i g.1 g.2 k Q
    | D i =>
      simp only [step] at h; split_ifs at h with g; cases h
      exact step_ldD m K c σ i g.1 g.2 k Q
  | gem s =>
    simp only [step] at h; split_ifs at h with g; cases h
    exact step_gem m K c σ s g.1 g.2.1 g.2.2 k Q
  | xst s =>
    simp only [step] at h; split_ifs at h with g; cases h
    exact step_xst m K c σ s g.1 g.2 k Q
  | own s =>
    simp only [step] at h; split_ifs at h with g; cases h
    exact step_own m K c σ s g.1 g.2.1 g.2.2 k Q
  | bar =>
    simp only [step] at h; split_ifs at h with g; cases h
    exact step_bar m K c σ g k Q
  | snd t =>
    simp only [step] at h; split_ifs at h with g; cases h
    exact step_snd m K c σ t g.1 g.2.1 g.2.2.1 g.2.2.2.1 g.2.2.2.2 k Q
  | swt t =>
    simp only [step] at h; split_ifs at h with g; cases h
    exact step_swt m K c σ t g.1 g.2 k Q
  | rcv t =>
    simp only [step] at h; split_ifs at h with g; cases h
    exact step_rcv m K c σ t g.1 g.2.1 g.2.2 k Q
  | piece p =>
    simp only [step] at h; split_ifs at h with g; cases h
    exact step_piece m K c σ k Q p g.1 g.2

/-- A list of instructions the machine may run runs, and leaves what the machine says. -/
theorem run_ok (c : Dev nD) (k : KProg F) (Q : PUnit → sProp 𝕄) : ∀ (l : List Ins) (σ σ' : St) (h : run l σ = some σ'),
    iprop(ctx m K ∗ Inv m c σ) ⊢ iprop((Inv m c σ' -∗ WP c k Q) -∗ WP c (compile c l k) Q)
  | [], σ, σ', h => by
    cases h
    iintro ⟨-, HI⟩ Hk
    unfold compile
    iapply Hk; iexact HI
  | i :: l, σ, σ', h => by
    unfold run at h
    cases hs : step σ i with
    | none => rw [hs] at h; cases h
    | some σ₁ =>
      rw [hs] at h
      unfold compile
      iintro ⟨#Hx, HI⟩ Hk
      iapply (step_ok m K c σ σ₁ i hs (compile c l k) Q) $$ [HI]
      · isplitr; · iexact Hx
        iexact HI
      iintro HI
      iapply (run_ok c k Q l σ₁ σ' h) $$ [HI]
      · isplitr; · iexact Hx
        iexact HI
      iexact Hk

/-- The state a body ends in. -/
theorem run_end : ∃ σ, run theList {} = some σ ∧ ended σ = true := by
  have h := run_ends
  cases e : run theList {} with
  | none => rw [e] at h; cases h
  | some σ => rw [e] at h; exact ⟨σ, rfl, h⟩

end Cert.AllReduce
-- ==== Proof.Parts.lean ====
/-
Buffers given out in windows, and made whole again.
-/
module

public import proofs.«01_k».proof.Proof.Sums
public import proofs.«01_k».proof.Proof.Sync
public import Idealize.ShloMosaic.Lib.ViewIndex

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ)

/-! ## A buffer and its windows -/

/-- Elements of a buffer, holding anything. -/
def rawP (ℓ : Loc nD τ sig) (A : Finset (Idx ℓ)) : sProp 𝕄 := iprop(∃ f : Buf (Elt F) ℓ, ℓ ↦[A]{fullShare} f)

omit [FloatOps F] in
/-- A buffer can be given out in windows, and made whole again from them. -/
theorem split_parts {I : Type} [Fintype I] [DecidableEq I] (ℓ : Loc nD τ sig) (S : I → Finset (Idx ℓ))
    (hd : ∀ i i', i ≠ i' → Disjoint (S i) (S i')) [∀ e, Nonempty (Elt F e)] :
    (rawP ℓ Finset.univ : sProp 𝕄)
      ⊢ iprop((bigSep Finset.univ fun i => rawP ℓ (S i)) ∗ ((bigSep Finset.univ fun i => rawP (F := F) ℓ (S i)) -∗ rawP ℓ Finset.univ)) := by
  have hd' : ∀ i ∈ Finset.univ, ∀ i' ∈ Finset.univ, i ≠ i' → Disjoint (S i) (S i') := fun i _ i' _ h => hd i i' h
  unfold rawP
  iintro ⟨%f, H⟩
  ihave H := (pointsTo_split_subset (Finset.subset_univ (Finset.univ.biUnion S))).1 $$ H
  icases H with ⟨H, Hr⟩
  isplitl [H]
  · ihave H := (Entails.of_eq (pointsTo_biUnion Finset.univ S hd')) $$ H
    have h₁ (i : I) : (ℓ ↦[S i]{fullShare} f : sProp 𝕄) ⊢ iprop(∃ f : Buf (Elt F) ℓ, ℓ ↦[S i]{fullShare} f) := by
      iintro H; iexists f; iexact H
    have hm : (bigSep Finset.univ fun i => ℓ ↦[S i]{fullShare} f : sProp 𝕄)
        ⊢ bigSep Finset.univ fun i => iprop(∃ f : Buf (Elt F) ℓ, ℓ ↦[S i]{fullShare} f) :=
      bigSep_mono fun i _ => h₁ i
    iapply hm; iexact H
  iintro H
  ihave H := (BI.bigSep_exists_pi Finset.univ (fun (i : I) (f : Buf (Elt F) ℓ) => (ℓ ↦[S i]{fullShare} f : sProp 𝕄))) $$ H
  icases H with ⟨%fs, H⟩
  ihave H := (pointsTo_biUnion_join Finset.univ S fs f hd') $$ H
  icases H with ⟨%g, -, H⟩
  ihave H := (pointsTo_join_subset (Finset.subset_univ (Finset.univ.biUnion S))) $$ [H Hr]
  · isplitl [H] <;> iassumption
  iexists _; iexact H

/-! ## Windows apart -/

theorem apart2 {N n n' o o' : ℕ} (b : Memref sig .tc .vmem (SR N) .bf16) (h : o + n ≤ N) (h' : o' + n' ≤ N)
    (hd : o + n ≤ o' ∨ o' + n' ≤ o) : Disjoint (win2 b o n h).view.set (win2 b o' n' h').view.set :=
  View.disjoint_slice (unit_disj 0 hd)
theorem apart3 {N n n' : ℕ} (b : Memref sig .tc .vmem ⟨3, ![4, N, 512]⟩ .bf16) (s s' : Fin 4) (h : 0 + n ≤ N) (h' : 0 + n' ≤ N)
    (hs : s ≠ s') : Disjoint (win3 b s 0 n h).view.set (win3 b s' 0 n' h').view.set := by
  rw [View.set_reshape, View.set_reshape]
  refine View.disjoint_slice (unit_disj 0 ?_)
  show s.val + 1 ≤ s'.val ∨ s'.val + 1 ≤ s.val
  have : s.val ≠ s'.val := fun e => hs (Fin.ext e)
  omega
theorem apart4 {J N n n' : ℕ} (b : Memref sig .tc .vmem ⟨4, ![4, J, N, 512]⟩ .bf16) (s s' : Fin 4) (j j' : Fin J) (h : 0 + n ≤ N)
    (h' : 0 + n' ≤ N) (hs : (s, j) ≠ (s', j')) : Disjoint (win4 b s j 0 n h).view.set (win4 b s' j' 0 n' h').view.set := by
  rw [View.set_reshape, View.set_reshape]
  by_cases e : s = s'
  · refine View.disjoint_slice (unit_disj 1 ?_)
    show j.val + 1 ≤ j'.val ∨ j'.val + 1 ≤ j.val
    have : j.val ≠ j'.val := fun e' => hs (by rw [e, Fin.ext e'])
    omega
  · refine View.disjoint_slice (unit_disj 0 ?_)
    show s.val + 1 ≤ s'.val ∨ s'.val + 1 ≤ s.val
    have : s.val ≠ s'.val := fun e' => e (Fin.ext e')
    omega
theorem apartStg (k k' : Fin 3) (h : k ≠ k') : Disjoint (stgAt k).view.set (stgAt k').view.set := by
  rw [View.set_reshape, View.set_reshape]
  refine View.disjoint_slice (unit_disj 0 ?_)
  show k.val + 1 ≤ k'.val ∨ k'.val + 1 ≤ k.val
  have : k.val ≠ k'.val := fun e => h (Fin.ext e)
  omega

/-! ## The copies by the buffer they land in -/

/-- The copy that fills mirror slot `k`. -/
abbrev mir (s : Fin 4) : Fin 7 → Tr
  | 0 => .M false s 0
  | 1 => .M true s 0
  | 2 => .M false s 1
  | 3 => .M true s 1
  | 4 => .M false s 2
  | 5 => .M true s 2
  | 6 => .Z s

def trOf : Fin 4 ⊕ (Fin 4 × Fin 4) ⊕ (Fin 4 × Fin 4) ⊕ (Fin 4 × Fin 7) → Tr
  | .inl s => .X s
  | .inr (.inl p) => ring false p.1 p.2
  | .inr (.inr (.inl p)) => ring true p.1 p.2
  | .inr (.inr (.inr p)) => mir p.1 p.2
theorem trOf_bij : Function.Bijective trOf :=
  ⟨by decide +kernel, by decide +kernel⟩

omit [FloatOps F] in
theorem fam_tr (Φ : Tr → sProp 𝕄) : bigSep Finset.univ Φ
    = iprop((bigSep Finset.univ fun s => Φ (.X s)) ∗ (bigSep Finset.univ fun p : Fin 4 × Fin 4 => Φ (ring false p.1 p.2))
        ∗ (bigSep Finset.univ fun p : Fin 4 × Fin 4 => Φ (ring true p.1 p.2)) ∗ (bigSep Finset.univ fun p : Fin 4 × Fin 7 => Φ (mir p.1 p.2))) := by
  rw [bigSep_univ_equiv (Equiv.ofBijective trOf trOf_bij) Φ, bigSep_univ_sum, bigSep_univ_sum, bigSep_univ_sum]
  rfl

theorem ring_rows (d : Bool) (s j : Fin 4) : 0 + rows (ring d s j) ≤ 192 := by cases d <;> fin_cases j <;> exact Nat.le_of_ble_eq_true rfl
abbrev ringS (d : Bool) (p : Fin 4 × Fin 4) := (win4 (J := 4) (N := 192) (bRing d) p.1 p.2 0 (rows (ring d p.1 p.2)) (ring_rows d p.1 p.2)).view.set
abbrev mirS (p : Fin 4 × Fin 7) := (win4 (J := 7) (N := 64) bM p.1 p.2 0 64 (Nat.le_refl 64)).view.set
theorem raw_ring (c : Dev nD) (d : Bool) (s j : Fin 4) :
    (dstRaw c (ring d s j) : sProp 𝕄) = rawP ((bRing d).view.loc (c : Thread nD τ)) (ringS d (s, j)) := by
  cases d <;> fin_cases j <;> rfl
theorem raw_mir (c : Dev nD) (s : Fin 4) (k : Fin 7) :
    (dstRaw c (mir s k) : sProp 𝕄) = rawP (bM.view.loc (c : Thread nD τ)) (mirS (s, k)) := by
  fin_cases k <;> rfl

/-- The landing buffers. -/
def landBufs (c : Dev nD) : sProp 𝕄 :=
  iprop(rawP (F := F) (bXr.view.loc (c : Thread nD τ)) Finset.univ ∗ rawP (F := F) ((bRing false).view.loc (c : Thread nD τ)) Finset.univ
    ∗ rawP (F := F) ((bRing true).view.loc (c : Thread nD τ)) Finset.univ ∗ rawP (F := F) (bM.view.loc (c : Thread nD τ)) Finset.univ)

/-- The landing buffers are given out as the landing places of the copies. -/
theorem land_parts (c : Dev nD) [∀ e, Nonempty (Elt F e)] :
    (landBufs c : sProp 𝕄) ⊢ iprop((bigSep Finset.univ fun t : Tr => dstRaw c t) ∗ ((bigSep Finset.univ fun t : Tr => dstRaw (F := F) c t) -∗ landBufs c)) := by
  have hX := split_parts (F := F) (bXr.view.loc (c : Thread nD τ)) (fun s : Fin 4 => (dst (.X s)).view.set) fun s s' h =>
    apart2 (N := 1024) bXr (blk_le s) (blk_le s') (by have : s.val ≠ s'.val := fun e => h (Fin.ext e); omega)
  have hR (d : Bool) := split_parts (F := F) ((bRing d).view.loc (c : Thread nD τ)) (ringS d) fun p p' h => apart4 (bRing d) p.1 p'.1 p.2 p'.2 _ _ h
  have hM := split_parts (F := F) (bM.view.loc (c : Thread nD τ)) mirS fun p p' h => apart4 bM p.1 p'.1 p.2 p'.2 _ _ h
  have e₁ (d : Bool) : (bigSep Finset.univ fun p : Fin 4 × Fin 4 => dstRaw c (ring d p.1 p.2) : sProp 𝕄)
      = bigSep Finset.univ fun p => rawP ((bRing d).view.loc (c : Thread nD τ)) (ringS d p) := bigSep_congr fun p _ => raw_ring c d p.1 p.2
  have e₂ : (bigSep Finset.univ fun p : Fin 4 × Fin 7 => dstRaw c (mir p.1 p.2) : sProp 𝕄)
      = bigSep Finset.univ fun p => rawP (bM.view.loc (c : Thread nD τ)) (mirS p) := bigSep_congr fun p _ => raw_mir c p.1 p.2
  have e₀ : (bigSep Finset.univ fun s : Fin 4 => dstRaw c (.X s) : sProp 𝕄)
      = bigSep Finset.univ fun s : Fin 4 => rawP (bXr.view.loc (c : Thread nD τ)) (dst (.X s)).view.set := rfl
  rw [fam_tr, e₀, e₁, e₁, e₂]
  unfold landBufs
  iintro ⟨H₀, H₁, H₂, H₃⟩
  ihave H₀ := hX $$ H₀
  ihave H₁ := (hR false) $$ H₁
  ihave H₂ := (hR true) $$ H₂
  ihave H₃ := hM $$ H₃
  icases H₀ with ⟨A₀, B₀⟩
  icases H₁ with ⟨A₁, B₁⟩
  icases H₂ with ⟨A₂, B₂⟩
  icases H₃ with ⟨A₃, B₃⟩
  isplitl [A₀ A₁ A₂ A₃]
  · isplitl [A₀]; · iexact A₀
    isplitl [A₁]; · iexact A₁
    isplitl [A₂] <;> iassumption
  iintro ⟨A₀, A₁, A₂, A₃⟩
  isplitl [A₀ B₀]; · iapply B₀; iexact A₀
  isplitl [A₁ B₁]; · iapply B₁; iexact A₁
  isplitl [A₂ B₂]; · iapply B₂; iexact A₂
  iapply B₃; iexact A₃

theorem xs_parts (c : Dev nD) [∀ e, Nonempty (Elt F e)] :
    (rawP (bXs.view.loc (c : Thread nD τ)) Finset.univ : sProp 𝕄)
      ⊢ iprop((bigSep Finset.univ fun s : Fin 4 => srcRaw c (.X s)) ∗ ((bigSep Finset.univ fun s : Fin 4 => srcRaw (F := F) c (.X s)) -∗ rawP (bXs.view.loc (c : Thread nD τ)) Finset.univ)) :=
  split_parts (F := F) (bXs.view.loc (c : Thread nD τ)) (fun s : Fin 4 => (src (.X s) c).view.set) fun s s' h =>
    apart2 (N := 1024) bXs (blk_le s) (blk_le s') (by have : s.val ≠ s'.val := fun e => h (Fin.ext e); omega)
theorem own_parts (c : Dev nD) [∀ e, Nonempty (Elt F e)] :
    (rawP (bOwn.view.loc (c : Thread nD τ)) Finset.univ : sProp 𝕄)
      ⊢ iprop((bigSep Finset.univ fun s : Fin 4 => srcRaw c (.I false s)) ∗ ((bigSep Finset.univ fun s : Fin 4 => srcRaw (F := F) c (.I false s)) -∗ rawP (bOwn.view.loc (c : Thread nD τ)) Finset.univ)) :=
  split_parts (F := F) (bOwn.view.loc (c : Thread nD τ)) (fun s : Fin 4 => (src (.I false s) c).view.set) fun s s' h =>
    by
      have := apart3 (N := 192) (n := 192) (n' := 192) bOwn s s' (Nat.le_refl 192) (Nat.le_refl 192) h
      exact this
theorem stg_parts (c : Dev nD) [∀ e, Nonempty (Elt F e)] :
    (rawP (bStg.view.loc (c : Thread nD τ)) Finset.univ : sProp 𝕄)
      ⊢ iprop((bigSep Finset.univ fun k : Fin 3 => rawP (bStg.view.loc (c : Thread nD τ)) (stgAt k).view.set)
        ∗ ((bigSep Finset.univ fun k : Fin 3 => rawP (F := F) (bStg.view.loc (c : Thread nD τ)) (stgAt k).view.set) -∗ rawP (bStg.view.loc (c : Thread nD τ)) Finset.univ)) :=
  split_parts (F := F) (bStg.view.loc (c : Thread nD τ)) (fun k : Fin 3 => (stgAt k).view.set) fun k k' h => apartStg k k' h

/-! ## Everything given back -/

/-- What is lent of the landing places, in one family. -/
def lent (p : Tr × Bool) : Option Tr := if p.2 then u₂ p.1 else u₁ p.1
def lenders : Finset (Tr × Bool) := Finset.univ.filter fun p => (lent p).isSome = true
def lentTr (p : Tr × Bool) : Tr := (lent p).getD (.X 0)
theorem lent_inj : Set.InjOn lentTr lenders := by
  have h : ∀ p ∈ lenders, ∀ q ∈ lenders, lentTr p = lentTr q → p = q := by decide +kernel
  exact fun p hp q hq e => h p hp q hq e
theorem lent_all : (Finset.univ : Finset Tr)
    = lenders.image lentTr ∪ (Finset.univ.image Tr.X ∪ (Finset.univ.image (Tr.I false) ∪ Finset.univ.image (Tr.I true))) := by decide +kernel

theorem lent_eq (c : Dev nD) : (bigSep Finset.univ fun t : Tr => iprop(optR m c (u₁ t) ∗ optR m c (u₂ t)))
    = bigSep (lenders.image lentTr) fun t => srcPts m c t := by
  have e : (bigSep Finset.univ fun p : Tr × Bool => optR m c (lent p)) = bigSep lenders fun p => srcPts m c (lentTr p) := by
    unfold lenders
    rw [bigSep_filter]
    refine bigSep_congr fun p _ => ?_
    cases h : lent p with
    | none => rw [if_neg (by simp)]; rfl
    | some t => rw [if_pos (by simp)]; unfold lentTr; rw [h]; rfl
  rw [bigSep_image_of_injOn lent_inj, ← e, bigSep_univ_prod]
  refine bigSep_congr fun t _ => ?_
  rw [show (Finset.univ : Finset Bool) = {false, true} by decide, bigSep_insert (by decide), bigSep_singleton]
  rfl

omit [FloatOps F] in
theorem fam_union {I : Type} [DecidableEq I] {s t : Finset I} (h : Disjoint s t) (Φ : I → sProp 𝕄) :
    bigSep (s ∪ t) Φ = iprop(bigSep s Φ ∗ bigSep t Φ) := bigSep_union h

/-- Every source back, with what was kept of the landing places: the landing places, and the places first sent from. -/
theorem all_back (c : Dev nD) :
    iprop((bigSep Finset.univ fun t : Tr => srcPts m c t) ∗ (bigSep Finset.univ fun t : Tr => kept m c t))
      ⊢ iprop((bigSep Finset.univ fun t : Tr => dstRaw c t) ∗ (bigSep Finset.univ fun s : Fin 4 => srcRaw c (.X s))
          ∗ (bigSep Finset.univ fun s : Fin 4 => srcRaw c (.I false s))) := by
  have e : (bigSep Finset.univ fun t : Tr => srcPts m c t)
      = iprop((bigSep Finset.univ fun t : Tr => iprop(optR m c (u₁ t) ∗ optR m c (u₂ t))) ∗ (bigSep Finset.univ fun s : Fin 4 => srcPts m c (.X s))
        ∗ (bigSep Finset.univ fun s : Fin 4 => srcPts m c (.I false s)) ∗ (bigSep Finset.univ fun s : Fin 4 => srcPts m c (.I true s))) := by
    rw [lent_eq, lent_all, fam_union (by decide +kernel), fam_union (by decide +kernel), fam_union (by decide +kernel),
      bigSep_image_of_injOn (fun _ _ _ _ h => Tr.X.inj h), bigSep_image_of_injOn (fun _ _ _ _ h => (Tr.I.inj h).2),
      bigSep_image_of_injOn (fun _ _ _ _ h => (Tr.I.inj h).2)]
  rw [e]
  iintro ⟨⟨HL, HX, HF, HT⟩, HK⟩
  isplitl [HL HK]
  · have h₁ : iprop((bigSep Finset.univ fun t : Tr => iprop(optR m c (u₁ t) ∗ optR m c (u₂ t))) ∗ (bigSep Finset.univ fun t : Tr => kept m c t))
        ⊢ bigSep Finset.univ fun t : Tr => dstRaw (F := F) c t := by
      rw [← bigSep_sep']
      refine bigSep_mono fun t _ => ?_
      refine BIBase.Entails.trans (carve m c t).2 ?_
      unfold dstPts dstRaw
      iintro H; iexists _; iexact H
    iapply h₁
    isplitl [HL] <;> iassumption
  isplitl [HX]
  · have h₂ : (bigSep Finset.univ fun s : Fin 4 => srcPts m c (.X s)) ⊢ bigSep Finset.univ fun s : Fin 4 => srcRaw (F := F) c (.X s) :=
      bigSep_mono fun s _ => by
        have e : srcPts m c (.X s) ⊢ iprop(∃ f, (src (.X s) c).view.loc (c : Thread nD τ) ↦[(src (.X s) c).view.set]{fullShare} f) := by
          unfold srcPts; iintro H; iexists _; iexact H
        exact e
    iapply h₂; iexact HX
  · have h₃ : iprop((bigSep Finset.univ fun s : Fin 4 => srcPts m c (.I false s)) ∗ (bigSep Finset.univ fun s : Fin 4 => srcPts m c (.I true s)))
        ⊢ bigSep Finset.univ fun s : Fin 4 => srcRaw (F := F) c (.I false s) := by
      rw [← bigSep_sep']
      refine bigSep_mono fun s _ => ?_
      have e : iprop(((src (.I false s) c).view.loc (c : Thread nD τ) ↦[(src (.I false s) c).view.set]{fullShare.left} can m (src (.I false s) c) c (OWN m c s))
            ∗ ((src (.I false s) c).view.loc (c : Thread nD τ) ↦[(src (.I false s) c).view.set]{fullShare.right} can m (src (.I false s) c) c (OWN m c s)))
          ⊢ (srcRaw (F := F) c (.I false s) : sProp 𝕄) := by
        unfold srcRaw
        iintro H
        iexists _
        iapply (pointsTo_share (PosShare.mem_left_op_right fullShare)).2
        iexact H
      exact e
    iapply h₃
    isplitl [HF] <;> iassumption

end Cert.AllReduce
-- ==== Proof.Body.lean ====
/-
The body of a device: what it starts with, what it ends with, what it leaves in the result buffer.
-/
module

public import proofs.«01_k».proof.Proof.Run
public import proofs.«01_k».proof.Proof.Parts

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ)

/-! ## What a device starts with and ends with -/

/-- The semaphores of the staging slots, at zero. -/
def loadSems (c : Dev nD) : sProp 𝕄 := bigSep Finset.univ fun k : Fin 3 => semVal ((c : Thread nD τ), .dma (loadSem k)) 0
/-- The device's two arguments. -/
def args (c : Dev nD) : sProp 𝕄 := iprop(argOf m c fullShare (.W 0) ∗ argOf m c fullShare (.D 0))

theorem args_eq (c : Dev nD) : (args m c : sProp 𝕄)
    = iprop(((c : Thread nD τ).loc main_arg1 ↦{fullShare} m ((c : Thread nD τ).loc main_arg1)) ∗ ((c : Thread nD τ).loc main_arg0 ↦{fullShare} m ((c : Thread nD τ).loc main_arg0))) := rfl

/-- The scratch buffers. -/
def rest (c : Dev nD) : sProp 𝕄 :=
  iprop(rawP (F := F) (bD.view.loc (c : Thread nD τ)) Finset.univ ∗ rawP (F := F) (bW.view.loc (c : Thread nD τ)) Finset.univ
    ∗ rawP (F := F) (bStg.view.loc (c : Thread nD τ)) Finset.univ ∗ rawP (F := F) (bAcc.view.loc (c : Thread nD τ)) Finset.univ
    ∗ rawP (F := F) (bXs.view.loc (c : Thread nD τ)) Finset.univ ∗ rawP (F := F) (bXr.view.loc (c : Thread nD τ)) Finset.univ
    ∗ rawP (F := F) (bOwn.view.loc (c : Thread nD τ)) Finset.univ ∗ rawP (F := F) ((bRing false).view.loc (c : Thread nD τ)) Finset.univ
    ∗ rawP (F := F) ((bRing true).view.loc (c : Thread nD τ)) Finset.univ ∗ rawP (F := F) (bM.view.loc (c : Thread nD τ)) Finset.univ)

omit [FloatOps F] in
theorem rest_eq (c : Dev nD) : (Pipeline.scopedRest spec0 c : sProp 𝕄) = rest c := scopedRest0_eq c

/-- The positions, tokens and credit of the barrier. -/
def barLin (c : Dev nD) : sProp 𝕄 :=
  iprop(atPos ER (barCell c) 0 ∅ 0 ∗ cred (tallyAt (barCell c) () 3)
      ∗ (dutyTok ER (barCell (xpeer c)) 0 0 ∗ dutyTok ER (barCell (nxt c)) 0 1 ∗ dutyTok ER (barCell (prv c)) 0 2))

/-- What a device starts its body with, beside its buffers. -/
def lin (c : Dev nD) : sProp 𝕄 :=
  iprop(loadSems c ∗ args m c ∗ barLin c ∗ (bigSep Finset.univ fun t => sndR c t .ready) ∗ bigSep Finset.univ fun t => rcvR m c t false)

/-- An argument is cut in one share for each staging slot. -/
theorem arg_shares (c : Dev nD) (q : Ck) :
    (argOf m c fullShare q : sProp 𝕄) ⊣⊢ bigSep Finset.univ fun k : Fin 3 => argOf m c (qk k) q := by
  rw [fin3]
  unfold argOf
  constructor
  · iintro H
    ihave H := (pointsTo_share (PosShare.mem_left_op_right fullShare)).1 $$ H
    icases H with ⟨H₁, H₂⟩
    ihave H₂ := (pointsTo_share (PosShare.mem_left_op_right fullShare.right)).1 $$ H₂
    icases H₂ with ⟨H₂, H₃⟩
    isplitl [H₁]; · iexact H₁
    isplitl [H₂]; · iexact H₂
    iexact H₃
  · iintro ⟨H₁, H₂, H₃⟩
    iapply (pointsTo_share (PosShare.mem_left_op_right fullShare)).2
    isplitl [H₁]; · iexact H₁
    iapply (pointsTo_share (PosShare.mem_left_op_right fullShare.right)).2
    isplitl [H₂]; · iexact H₂
    iexact H₃

theorem slots_eq (c : Dev nD) : (bigSep Finset.univ fun k => slotR m c k none : sProp 𝕄)
    = iprop(loadSems c ∗ (bigSep Finset.univ fun k : Fin 3 => rawP (F := F) (bStg.view.loc (c : Thread nD τ)) (stgAt k).view.set)
        ∗ (bigSep Finset.univ fun k : Fin 3 => argOf m c (qk k) (.W 0)) ∗ bigSep Finset.univ fun k : Fin 3 => argOf m c (qk k) (.D 0)) := by
  unfold loadSems
  rw [← bigSep_sep', ← bigSep_sep', ← bigSep_sep']
  rfl

/-- How the buffers given out in windows are made whole. -/
def back (c : Dev nD) : sProp 𝕄 :=
  iprop(((bigSep Finset.univ fun k : Fin 3 => rawP (F := F) (bStg.view.loc (c : Thread nD τ)) (stgAt k).view.set) -∗ rawP (F := F) (bStg.view.loc (c : Thread nD τ)) Finset.univ)
    ∗ ((bigSep Finset.univ fun s : Fin 4 => srcRaw (F := F) c (.X s)) -∗ rawP (F := F) (bXs.view.loc (c : Thread nD τ)) Finset.univ)
    ∗ ((bigSep Finset.univ fun s : Fin 4 => srcRaw (F := F) c (.I false s)) -∗ rawP (F := F) (bOwn.view.loc (c : Thread nD τ)) Finset.univ)
    ∗ ((bigSep Finset.univ fun t : Tr => dstRaw (F := F) c t) -∗ landBufs c))

theorem enter (c : Dev nD) [∀ e, Nonempty (Elt F e)] :
    iprop(lin m c ∗ rest c ∗ (∃ g : FVec F S2048x2048 .bf16, bOut.view.loc (c : Thread nD τ) ↦[Finset.univ]{fullShare} g) ∗ (∃ W, owes (c : Thread nD τ) (O₀ c) W))
      ⊢ iprop(Inv m c {} ∗ back c) := by
  unfold lin rest barLin Inv back
  iintro ⟨⟨HL, HA, ⟨HB₁, HB₂, HB₃⟩, HS, HR⟩, ⟨HbD, HbW, HbS, HbA, HbX, HbXr, HbO, HbF, HbT, HbM⟩, Hout, HO⟩
  ihave HbS := (stg_parts c) $$ HbS
  ihave HbX := (xs_parts c) $$ HbX
  ihave HbO := (own_parts c) $$ HbO
  have hl : iprop(rawP (F := F) (bXr.view.loc (c : Thread nD τ)) Finset.univ ∗ rawP (F := F) ((bRing false).view.loc (c : Thread nD τ)) Finset.univ
    ∗ rawP (F := F) ((bRing true).view.loc (c : Thread nD τ)) Finset.univ ∗ rawP (F := F) (bM.view.loc (c : Thread nD τ)) Finset.univ)
    ⊢ iprop((bigSep Finset.univ fun t : Tr => dstRaw c t) ∗ ((bigSep Finset.univ fun t : Tr => dstRaw (F := F) c t) -∗ landBufs c)) := land_parts c
  ihave HbL := hl $$ [HbXr HbF HbT HbM]
  · isplitl [HbXr]; · iexact HbXr
    isplitl [HbF]; · iexact HbF
    isplitl [HbT] <;> iassumption
  icases HbS with ⟨HS₁, HS₂⟩
  icases HbX with ⟨HX₁, HX₂⟩
  icases HbO with ⟨HO₁, HO₂⟩
  icases HbL with ⟨HL₁, HL₂⟩
  isplitr [HS₂ HX₂ HO₂ HL₂]
  · isplitl [HL HS₁ HA]
    · have e : (bigSep Finset.univ fun k => slotR m c k (({} : St).fl k) : sProp 𝕄) = _ := slots_eq m c
      rw [e]
      unfold args
      icases HA with ⟨HW, HD⟩
      isplitl [HL]; · iexact HL
      isplitl [HS₁]; · iexact HS₁
      isplitl [HW]
      · iapply (arg_shares m c (.W 0)).1; iexact HW
      · iapply (arg_shares m c (.D 0)).1; iexact HD
    isplitl [HbW]
    · unfold rawP wR
      icases HbW with ⟨%f, H⟩
      iexists f
      isplitr; · ipureintro; exact fun i h => absurd h (Nat.not_lt_zero _)
      iexact H
    isplitl [HbD]
    · unfold rawP dR
      icases HbD with ⟨%f, H⟩
      iexists f
      isplitr; · ipureintro; exact fun i h => absurd h (Nat.not_lt_zero _)
      iexact H
    isplitl [HbA]
    · unfold rawP accR
      icases HbA with ⟨%f, H⟩
      iexists f
      isplitr; · ipureintro; exact fun i h => absurd h (Nat.not_lt_zero _)
      iexact H
    isplitl [HX₁]; · iexact HX₁
    isplitl [HO₁]; · iexact HO₁
    isplitl [HB₁ HB₂ HB₃ HL₁]
    · have e : (barR c ({} : St).bar : sProp 𝕄) = iprop(atPos ER (barCell c) 0 ∅ 0 ∗ cred (tallyAt (barCell c) () 3)
          ∗ (dutyTok ER (barCell (xpeer c)) 0 0 ∗ dutyTok ER (barCell (nxt c)) 0 1 ∗ dutyTok ER (barCell (prv c)) 0 2)
          ∗ bigSep Finset.univ fun t : Tr => dstRaw (F := F) c t) := rfl
      rw [e]
      isplitl [HB₁]; · iexact HB₁
      isplitl [HB₂]; · iexact HB₂
      isplitl [HB₃] <;> iassumption
    isplitr
    · have e : (bigSep Finset.univ fun t => landR (F := F) c t (({} : St).land t) : sProp 𝕄) = iprop(emp) := bigSep_emp_const _
      rw [e]; iempintro
    isplitl [HS]; · iexact HS
    isplitr
    · have e : (bigSep Finset.univ fun t => srcR m c t (({} : St).src t) : sProp 𝕄) = iprop(emp) := bigSep_emp_const _
      rw [e]; iempintro
    isplitl [HR]; · iexact HR
    isplitl [Hout]; · unfold outR; iexact Hout
    unfold owesR; iexact HO
  · isplitl [HS₂]; · iexact HS₂
    isplitl [HX₂]; · iexact HX₂
    isplitl [HO₂] <;> iassumption

/-- What a device ends its body with. -/
def outP (c : Dev nD) : sProp 𝕄 :=
  iprop(loadSems c ∗ args m c ∗ semVal (barCell c) 0 ∗ (bigSep Finset.univ fun t => semVal (sndCell c t) 0) ∗ (bigSep Finset.univ fun t => semVal (rcvCell c t) 0)
    ∗ rest c ∗ outR m c pieces.reverse ∗ (∃ W, owes (c : Thread nD τ) 0 W))

theorem leave (c : Dev nD) (σ : St) (h : ended σ = true) : iprop(Inv m c σ ∗ back c) ⊢ outP m c := by
  unfold ended at h
  simp only [Bool.and_eq_true, decide_eq_true_eq] at h
  obtain ⟨⟨⟨⟨⟨⟨⟨⟨hfl, hbar⟩, hsnd⟩, hsrc⟩, hrcv⟩, hn⟩, hxs⟩, hown⟩, hout⟩ := h
  unfold Inv
  rw [hfl, funext hsnd, funext hsrc, funext hrcv, hbar, hn, hout]
  iintro ⟨⟨HS, HW, HD, HA, -, -, HB, -, Hsnd, Hsrc, Hrcv, Hout, HO⟩, Hback⟩
  unfold back outP rest
  icases Hback with ⟨B₁, B₂, B₃, B₄⟩
  ihave HS := (Entails.of_eq (slots_eq m c)) $$ HS
  icases HS with ⟨HL, HSt, HaW, HaD⟩
  have e : (bigSep Finset.univ fun t => rcvR m c t true : sProp 𝕄) = iprop((bigSep Finset.univ fun t => semVal (rcvCell c t) 0) ∗ bigSep Finset.univ fun t => kept m c t) := by
    rw [← bigSep_sep']; rfl
  ihave Hrcv := (Entails.of_eq e) $$ Hrcv
  icases Hrcv with ⟨Hrcv, Hkept⟩
  ihave Hall := (all_back m c) $$ [Hsrc Hkept]
  · isplitl [Hsrc]; · iexact Hsrc
    iexact Hkept
  icases Hall with ⟨Hl, Hx, Ho⟩
  ihave Hl := B₄ $$ Hl
  ihave Hx := B₂ $$ Hx
  ihave Ho := B₃ $$ Ho
  ihave HSt := B₁ $$ HSt
  unfold landBufs
  icases Hl with ⟨Hl₀, Hl₁, Hl₂, Hl₃⟩
  isplitl [HL]; · iexact HL
  isplitl [HaW HaD]
  · unfold args
    isplitl [HaW]
    · iapply (arg_shares m c (.W 0)).2; iexact HaW
    · iapply (arg_shares m c (.D 0)).2; iexact HaD
  isplitl [HB]
  · have e : (barR c true : sProp 𝕄) = semVal (barCell c) 0 := rfl
    ihave HB := (Entails.of_eq e) $$ HB
    iexact HB
  isplitl [Hsnd]; · iexact Hsnd
  isplitl [Hrcv]; · iexact Hrcv
  isplitr [Hout HO]
  · isplitl [HD]
    · unfold dR rawP; icases HD with ⟨%f, -, H⟩; iexists f; iexact H
    isplitl [HW]
    · unfold wR rawP; icases HW with ⟨%f, -, H⟩; iexists f; iexact H
    isplitl [HSt]; · iexact HSt
    isplitl [HA]
    · unfold accR rawP; icases HA with ⟨%f, -, H⟩; iexists f; iexact H
    isplitl [Hx]; · iexact Hx
    isplitl [Hl₀]; · iexact Hl₀
    isplitl [Ho]; · iexact Ho
    isplitl [Hl₁]; · iexact Hl₁
    isplitl [Hl₂] <;> iassumption
  isplitl [Hout]; · iexact Hout
  have e₂ : (owesR c true order.length : sProp 𝕄) = iprop(∃ W, owes (c : Thread nD τ) 0 W) := by
    unfold owesR owed
    rw [List.drop_length]
    rfl
  ihave HO := (Entails.of_eq e₂) $$ HO
  iexact HO

/-! ## The result buffer -/

/-- The piece that covers 64 rows of a column block: it is told by the distance along the ring to the block's device,
    and by the 64 rows of the quarter block. -/
def whoB (c : Dev nD) (s : Fin 4) (u dist : ℕ) : Pc :=
  let x := c.val / 8
  let mine := decide (x ≤ u) && decide (u < x + 3)
  match dist with
  | 0 => .fin s
  | 1 => if mine then .put true s 0 else .putM true s 0
  | 2 => if mine then .put true s 1 else .putM true s 1
  | 3 => if mine then .put true s 2 else .putM true s 2
  | 5 => if mine then .put false s 2 else .putM false s 2
  | 6 => if mine then .put false s 1 else .putM false s 1
  | 7 => if mine then .put false s 0 else .putM false s 0
  | _ => if mine then (if u / 2 = x then .putE false s else .putE true s) else .putZ s
def who (c : Dev nD) (r : Fin 32) (k : Fin 4) : Pc :=
  let p := if c.val / 4 % 2 = 0 then c.val % 4 else 7 - c.val % 4
  let q := if r.val / 16 = 0 then k.val else 7 - k.val
  whoB c ⟨r.val / 4 % 4, Nat.mod_lt _ (by decide)⟩ (r.val % 4) ((q + 8 - p) % 8)

theorem who_in : ∀ (c : Dev nD) (r : Fin 32) (k : Fin 4), pOff (who c r k) c 0 ≤ 64 * r.val ∧ 64 * r.val + 64 ≤ pOff (who c r k) c 0 + pRows (who c r k)
    ∧ pOff (who c r k) c 1 = 512 * k.val ∧ who c r k ∈ pieces := by decide +kernel

/-- Every place of the result is in a piece. -/
theorem covered (c : Dev nD) (i : S2048x2048.Idx) : ∃ p ∈ pieces, i ∈ (pRect p c).set := by
  have h0 : (i 0).val < 2048 := (i 0).isLt
  have h1 : (i 1).val < 2048 := (i 1).isLt
  obtain ⟨ha, hb, hc, hp⟩ := who_in c ⟨(i 0).val / 64, by omega⟩ ⟨(i 1).val / 512, by omega⟩
  refine ⟨_, hp, ?_⟩
  generalize who c ⟨(i 0).val / 64, by omega⟩ ⟨(i 1).val / 512, by omega⟩ = p at ha hb hc
  dsimp only at ha hb hc
  rw [Rect.mem_set_unit]
  refine fun a => ?_
  fin_cases a
  · show pOff p c 0 ≤ (i 0).val ∧ (i 0).val < pOff p c 0 + pRows p
    omega
  · show pOff p c 1 ≤ (i 1).val ∧ (i 1).val < pOff p c 1 + 512
    omega

theorem put_at (c : Dev nD) (p : Pc) (g g' : FVec F S2048x2048 .bf16) (v : FVec F (SR (pRows p)) .bf16) (i : S2048x2048.Idx)
    (h : i ∈ (pRect p c).set ∨ g i = g' i) :
    (bOut.access (pRect p c) : View sig .tc _ _ _).write (Elt F) g v Finset.univ i = (bOut.access (pRect p c) : View sig .tc _ _ _).write (Elt F) g' v Finset.univ i := by
  by_cases hi : i ∈ (bOut.access (pRect p c) : View sig .tc _ _ _).setOn Finset.univ
  · obtain ⟨x, hx, rfl⟩ := Finset.mem_map.mp hi
    rw [View.write_emb_of_mem _ _ hx, View.write_emb_of_mem _ _ hx]
  · rw [View.write_of_not_mem _ _ _ hi, View.write_of_not_mem _ _ _ hi]
    refine h.resolve_left fun h => hi ?_
    have e : (bOut.access (pRect p c) : View sig .tc _ _ _).set = (pRect p c).set := View.set_slice_whole cc0_stg0_0 (pRect p c)
    rw [View.setOn_univ, e]
    exact h

/-- What the pieces leave where one of them lies does not depend on what was there. -/
theorem foldOut_at (c : Dev nD) (g g' : FVec F S2048x2048 .bf16) (i : S2048x2048.Idx) :
    ∀ l : List Pc, (∃ p ∈ l, i ∈ (pRect p c).set) → foldOut m c l g i = foldOut m c l g' i
  | [], ⟨_, h, _⟩ => absurd h List.not_mem_nil
  | p :: l, ⟨q, h, hq⟩ => by
    unfold foldOut
    refine put_at c p _ _ _ i ?_
    rcases List.mem_cons.mp h with rfl | h
    · exact Or.inl hq
    · exact Or.inr (foldOut_at c g g' i l ⟨q, h, hq⟩)

/-- The kernel's result on a device: the pieces it stores, the last first. -/
@[irreducible] def outAt (c : Dev nD) : (cc0_stg0_0 : Ref sig .tc).ty.Contents (Elt F) := foldOut m c pieces.reverse (m ((c : Thread nD τ).loc cc0_stg0_0))

theorem foldOut_eq (c : Dev nD) (g : FVec F S2048x2048 .bf16) : foldOut m c pieces.reverse g = outAt m c := by
  unfold outAt
  exact funext fun i => foldOut_at m c _ _ i _ (by
    obtain ⟨p, hp, hi⟩ := covered c i
    exact ⟨p, List.mem_reverse.mpr hp, hi⟩)

/-! ## The body -/

/-- What a device starts from: the records at some names, and its own. -/
def Φ₀ (c : Dev nD) : sProp 𝕄 := iprop((∃ K, ctx m K) ∗ lin m c ∗ rest c)
/-- What a device ends with. -/
def Φ₁ (c : Dev nD) : sProp 𝕄 :=
  iprop(loadSems c ∗ args m c ∗ semVal (barCell c) 0 ∗ (bigSep Finset.univ fun t => semVal (sndCell c t) 0) ∗ (bigSep Finset.univ fun t => semVal (rcvCell c t) 0)
    ∗ rest c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = Φ (0 : Fin 1) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outAt m c))

/-- The body, from what a device starts with to what it ends with. -/
theorem sound_body (c : Dev nD) [∀ e, Nonempty (Elt F e)] :
    bodyPre m c ⊢ wp frame (wpE (defs₀ (F := F)) 𝒱₀ c none) Set.univ (compile c theList (Prog.ret ⟨⟩)) (fun _ => bodyPost m c) := by
  obtain ⟨σ, hr, he⟩ := run_end
  unfold bodyPre Φ₀ Dat.owesAt Pipeline.owesWithin
  rw [show (dats m 0 c).owed t0_0.castSucc = O₀ c from rfl]
  iintro ⟨⟨⟨%K, #Hx⟩, Hlin, Hrest⟩, ⟨%W, %hW, HO⟩, ⟨%d, %g, %hg, Hout⟩⟩
  ihave H := (enter m c) $$ [Hlin Hrest HO Hout]
  · isplitl [Hlin]; · iexact Hlin
    isplitl [Hrest]; · iexact Hrest
    isplitl [Hout]; · iexists g; iexact Hout
    iexists W; iexact HO
  icases H with ⟨HI, Hb⟩
  iapply (run_ok m K c (Prog.ret ⟨⟩) (fun _ => bodyPost m c) theList {} σ hr) $$ [HI]
  · isplitr; · iexact Hx
    iexact HI
  iintro HI
  unfold WP
  rw [wp_ret]; imodintro
  ihave H := (leave m c σ he) $$ [HI Hb]
  · isplitl [HI] <;> iassumption
  unfold outP bodyPost Φ₁ Dat.owesAt Pipeline.owesWithin
  rw [show (dats m 0 c).owed t0_0.succ = 0 from rfl]
  icases H with ⟨H₁, H₂, H₃, H₄, H₅, H₆, Hout, ⟨%W, HO⟩⟩
  isplitl [H₁ H₂ H₃ H₄ H₅ H₆]
  · isplitl [H₁]; · iexact H₁
    isplitl [H₂]; · iexact H₂
    isplitl [H₃]; · iexact H₃
    isplitl [H₄]; · iexact H₄
    isplitl [H₅] <;> iassumption
  isplitl [HO]
  · iexists W
    isplitr; · ipureintro; exact fun _ _ => Or.inl trivial
    iexact HO
  unfold outR
  icases Hout with ⟨%g, Hout⟩
  iexists _
  isplitr; · ipureintro; exact foldOut_eq m c g
  iexact Hout

/-- The library's body obligation on a device. -/
theorem body_obligation (c : Dev nD) [∀ e, Nonempty (Elt F e)] : BodyObligation (dats (F := F) m 0 c) (defs₀ (F := F)) 𝒱₀ () Set.univ := fun t => by
  rw [fin_N0 t]
  rw [bigSep_W, bigSep_W]
  simp only [owns_whole_eq]
  have hb : defs₀ (F := F) .tc cfg0.body (cfg0.bodyArgs t0_0 (cfg0.slots t0_0)) = bodyAt0 t0_0 := rfl
  have h₀ : (dats m 0 c).Φ t0_0.castSucc = Φ₀ m c := rfl
  have h₁ : (dats m 0 c).Φ t0_0.succ = Φ₁ m c := rfl
  have h₂ : (dats m 0 c).after (0 : Fin 1) t0_0 = outAt m c := rfl
  have key := sound_body m c
  unfold bodyPre bodyPost at key
  rw [hb, body_eq, wp_deviceId, h₀, h₁]
  refine BIBase.Entails.trans key ?_
  rw [← h₂]

end Cert.AllReduce
-- ==== Proof.Launch.lean ====
/-
The launch: what every device is dealt, and the run of the sixteen devices.
-/
module

public import proofs.«01_k».proof.Proof.Body
public import Idealize.ShloMosaic.Lib.Quiescent
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 20000

variable (m : (ℓ : Loc nD τ sig) → Buf (Elt F) ℓ) (ρ : Dev nD → PrngReg)

/-! ## The cells and the tokens of the launch -/

theorem kcell_injective : Function.Injective (kcell : Dev nD × Cl → GSem nD τ sig) := by
  rintro ⟨c, k⟩ ⟨c', k'⟩ h
  have h₁ : c = c' := congrArg (fun g : GSem nD τ sig => g.1.1) h
  have h₂ : k = k' := csem_injective (congrArg Prod.snd h)
  rw [h₁, h₂]
def theCells : Finset (GSem nD τ sig) := Finset.univ.map ⟨kcell, kcell_injective⟩

/-- The duties of a device's cells: three at its barrier, one at each send and receive cell. -/
abbrev Du : Type := Fin 3 ⊕ (Bool × Tr)
abbrev duCl : Du → Cl
  | .inl _ => none
  | .inr p => some p
abbrev duIx : Du → Fin 3
  | .inl k => k
  | .inr _ => 0
theorem du_injective {j j' : Du} (h : duCl j = duCl j') (h' : duIx j = duIx j') : j = j' := by
  rcases j with k | p <;> rcases j' with k' | p'
  · exact congrArg Sum.inl h'
  · cases h
  · cases h
  · exact congrArg Sum.inr (Option.some.inj h)

abbrev tokOf (cj : Dev nD × Du) : GSem nD τ sig × ℕ × Fin 3 := (kcell (cj.1, duCl cj.2), 0, duIx cj.2)
theorem tokOf_injective : Function.Injective tokOf := by
  rintro ⟨c, j⟩ ⟨c', j'⟩ h
  have h₁ := kcell_injective (congrArg Prod.fst h)
  have h₂ : duIx j = duIx j' := congrArg (fun x : GSem nD τ sig × ℕ × Fin 3 => x.2.2) h
  have h₃ : c = c' := congrArg Prod.fst h₁
  have h₄ : j = j' := du_injective (congrArg Prod.snd h₁) h₂
  rw [h₃, h₄]
def theToks : Finset (GSem nD τ sig × ℕ × Fin 3) := Finset.univ.map ⟨tokOf, tokOf_injective⟩

def u₀ : UU :=
  (initOf (Pipeline.cells cfgs cellOf_inj) (Pipeline.launchToks cfgs cellOf_inj), (initOf theCells theToks, 1))

/-- The token of a duty of a device's own cells. -/
def tokR (cj : Dev nD × Du) : sProp 𝕄 := dutyTok ER (kcell (cj.1, duCl cj.2)) 0 (duIx cj.2)

/-- What the launch deals a device. -/
def G (c : Dev nD) : sProp 𝕄 :=
  iprop((bigSep Finset.univ fun k : Cl => roundState ER (rd m) (kcell (c, k)) 0)
    ∗ (bigSep Finset.univ fun k : Cl => iprop(atPos ER (kcell (c, k)) 0 ∅ 0 ∗ reached ER (kcell (c, k)) 0))
    ∗ bigSep Finset.univ fun j : Du => tokR (F := F) (c, j))

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Cl => Φ (kcell (c, k)) := by
    unfold theCells; rw [bigSep_map, bigSep_univ_prod]; rfl
  have hT : bigSep theToks (fun x => (dutyTok ER x.1 x.2.1 x.2.2 : sProp 𝕄)) = bigSep Finset.univ fun c : Dev nD => bigSep Finset.univ fun j : Du => tokR (c, j) := by
    unfold theToks; rw [bigSep_map, bigSep_univ_prod]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Families over the cells of a device -/

omit [FloatOps F] in
theorem fam_sr (Φ : Bool × Tr → sProp 𝕄) : bigSep Finset.univ Φ
    = iprop((bigSep Finset.univ fun t : Tr => Φ (false, t)) ∗ bigSep Finset.univ fun t : Tr => Φ (true, t)) := by
  rw [bigSep_univ_prod, show (Finset.univ : Finset Bool) = {false, true} by decide, bigSep_insert (by decide), bigSep_singleton]
  rfl
omit [FloatOps F] in
theorem fam_cl (Φ : Cl → sProp 𝕄) : bigSep Finset.univ Φ
    = iprop(Φ none ∗ (bigSep Finset.univ fun t : Tr => Φ (some (false, t))) ∗ bigSep Finset.univ fun t : Tr => Φ (some (true, t))) := by
  rw [fam_erase none, ← fam_sr (F := F) (fun p => Φ (some p))]
  have e : (Finset.univ.erase (none : Cl)) = Finset.univ.map ⟨some, Option.some_injective _⟩ := by
    ext x; cases x <;> simp
  rw [e, bigSep_map]
  rfl

omit [FloatOps F] in
/-- The kernel's own semaphores: those of the staging, and those of the copies. -/
theorem ownSems0_eq (c : Dev nD) : (Pipeline.ownSems0 (Ix := Unit) (Name := ℕ) (U := UU) (Lvl := ℕ) (Val := Elt F) (τ := τ) osem c : sProp 𝕄)
    = iprop(loadSems c ∗ (bigSep Finset.univ fun t : Tr => semVal (sndCell c t) 0) ∗ bigSep Finset.univ fun t : Tr => semVal (rcvCell c t) 0) := by
  unfold Pipeline.ownSems0
  rw [bigSep_univ_sum, fam_sr]
  rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop(loadSems c ∗ (bigSep Finset.univ fun k : Cl => semVal (kcell (c, k)) 0 : sProp 𝕄)) := by
  rw [ownSems0_eq, unscopedSems0_eq, fam_cl]
  iintro ⟨⟨HL, HS, HV⟩, HB⟩
  isplitl [HL]; · iexact HL
  isplitl [HB]; · iexact HB
  isplitl [HS]; · iexact HS
  iexact HV

/-! ## The cells allocated, the tokens dealt to the devices that pay with them -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (rd m) κ (kcell (c, k))))
          ∗ (bigSep Finset.univ fun k : Cl => iprop(atPos ER (kcell (c, k)) 0 ∅ 0 ∗ reached ER (kcell (c, k)) 0))
          ∗ (bigSep Finset.univ fun j : Du => tokR (F := F) (c, j)) ∗ loadSems c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : Cl => semVal (kcell (c, k)) 0) ∗ bigSep Finset.univ fun k : Cl => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The records of every cell of the machine. -/
def recs (K : Dev nD × Cl → ℕ) : sProp 𝕄 :=
  iprop((bigSep Finset.univ fun i => cellInv ER (rd m) (K i) (kcell i)) ∗ bigSep Finset.univ fun i => reached ER (kcell i) 0)
instance (K : Dev nD × Cl → ℕ) : BI.Persistent (recs m K) := by unfold recs; infer_instance

/-- The device that pays a duty of a device's cells. -/
def payE : Du → (Dev nD ≃ Dev nD)
  | .inl k => kpE k
  | .inr (false, _) => Equiv.refl _
  | .inr (true, t) => peerE t
def dealE : Dev nD × Du ≃ Dev nD × Du where
  toFun p := (payE p.2 p.1, p.2)
  invFun p := ((payE p.2).symm p.1, p.2)
  left_inv p := by simp
  right_inv p := by simp

/-- The tokens a device pays with. -/
def payToks (c : Dev nD) : sProp 𝕄 := bigSep Finset.univ fun j : Du => tokR (F := F) (payE j c, j)

omit [FloatOps F] in
theorem toks_around : (bigSep Finset.univ fun c : Dev nD => bigSep Finset.univ fun j : Du => tokR (F := F) (c, j))
    = bigSep Finset.univ fun c : Dev nD => payToks (F := F) c := by
  unfold payToks
  rw [← bigSep_univ_prod (fun p : Dev nD × Du => tokR (F := F) p), bigSep_univ_equiv dealE, bigSep_univ_prod]
  rfl

theorem payToks_eq (c : Dev nD) : (payToks c : sProp 𝕄)
    = iprop((dutyTok ER (barCell (xpeer c)) 0 0 ∗ dutyTok ER (barCell (nxt c)) 0 1 ∗ dutyTok ER (barCell (prv c)) 0 2)
        ∗ (bigSep Finset.univ fun t : Tr => dutyTok ER (sndCell c t) 0 0) ∗ bigSep Finset.univ fun t : Tr => dutyTok ER (rcvCell (peer t c) t) 0 0) := by
  unfold payToks
  rw [bigSep_univ_sum, fam_sr, fin3]
  rfl

/-- What stays with a device of the global step. -/
def stay (c : Dev nD) : sProp 𝕄 :=
  iprop((bigSep Finset.univ fun k : Cl => atPos ER (kcell (c, k)) 0 ∅ 0) ∗ payToks (F := F) c ∗ loadSems c)
def G' (c : Dev nD) : sProp 𝕄 := iprop((∃ K, recs m K) ∗ stay (F := F) c)

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (rd m) κ (kcell (c, k))))
          ∗ (bigSep Finset.univ fun k : Cl => iprop(atPos ER (kcell (c, k)) 0 ∅ 0 ∗ reached ER (kcell (c, k)) 0))
          ∗ (bigSep Finset.univ fun j : Du => tokR (F := F) (c, j)) ∗ loadSems c) : sProp 𝕄)
      ⊢ bigSep Finset.univ (G' m) := by
  rw [bigSep_sep', bigSep_sep', bigSep_sep', ← bigSep_univ_prod (fun ck : Dev nD × Cl => iprop(∃ κ : ℕ, cellInv ER (rd m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄)), toks_around]
  iintro ⟨HI, ⟨Hat, #HR⟩, Htok, HL⟩
  ihave HK := (BI.bigSep_exists_pi Finset.univ (fun (ck : Dev nD × Cl) (κ : ℕ) => (cellInv ER (rd m) κ (kcell ck) : sProp 𝕄))) $$ HI
  icases HK with ⟨%K, #HI⟩
  have hg (c : Dev nD) : iprop(recs m K ∗ stay (F := F) c) ⊢ G' m c := by
    unfold G'
    iintro ⟨H, H'⟩
    isplitl [H]; · iexists K; iexact H
    iexact H'
  iapply (bigSep_beside (R := recs m K) (Φ := stay) fun c _ => hg c)
  isplitr
  · unfold recs; isplitl; · iexact HI
    iexact HR
  · unfold stay
    rw [bigSep_sep', bigSep_sep']
    isplitl [Hat]; · iexact Hat
    isplitl [Htok] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem order_all : ∀ t : Tr, t ∈ order := by decide +kernel

theorem dues_sum (c : Dev nD) (l : List Tr) : dues c l = (l.map fun t => (tallyAt (rcvCell (peer t c) t) () (crd t) : CellTallies nD τ sig Unit)).sum := by
  induction l with
  | nil => rfl
  | cons t l ih => rw [List.map_cons, List.sum_cons, ← ih, add_comm]; rfl

theorem dues_all (c : Dev nD) : dues c order = ∑ t : Tr, (tallyAt (rcvCell (peer t c) t) () (crd t) : CellTallies nD τ sig Unit) := by
  rw [dues_sum, ← List.sum_toFinset _ order_nodup]
  congr 1
  ext t
  simp [order_all t]

/-- What a device waits for: its copies, and three barrier signals. -/
def Tt (c : Dev nD) : CellTallies nD τ sig Unit := (∑ t : Tr, tallyAt (rcvCell c t) () (crd t)) + tallyAt (barCell c) () 3

theorem sum_owed : (∑ d, O₀ d) = ∑ d, Tt d := by
  unfold O₀ O₂ O₁ Tt
  rw [Finset.sum_add_distrib, Finset.sum_add_distrib, Finset.sum_add_distrib, Finset.sum_add_distrib]
  have h₁ : (∑ d : Dev nD, dues d order) = ∑ d : Dev nD, ∑ t : Tr, (tallyAt (rcvCell d t) () (crd t) : CellTallies nD τ sig Unit) := by
    rw [Finset.sum_congr rfl fun d _ => dues_all d, Finset.sum_comm, Finset.sum_comm (s := (Finset.univ : Finset (Dev nD)))]
    exact Finset.sum_congr rfl fun t _ => Equiv.sum_comp (peerE t) fun d => (tallyAt (rcvCell d t) () (crd t) : CellTallies nD τ sig Unit)
  have hb (k : Fin 3) : (∑ d : Dev nD, (tallyAt (barCell (kp k d)) () 1 : CellTallies nD τ sig Unit)) = ∑ d : Dev nD, tallyAt (barCell d) () 1 :=
    Equiv.sum_comp (kpE k) fun d => (tallyAt (barCell d) () 1 : CellTallies nD τ sig Unit)
  have h₂ : (∑ d : Dev nD, (tallyAt (barCell (prv d)) () 1 : CellTallies nD τ sig Unit)) = ∑ d : Dev nD, tallyAt (barCell d) () 1 := hb 2
  have h₃ : (∑ d : Dev nD, (tallyAt (barCell (nxt d)) () 1 : CellTallies nD τ sig Unit)) = ∑ d : Dev nD, tallyAt (barCell d) () 1 := hb 1
  have h₄ : (∑ d : Dev nD, (tallyAt (barCell (xpeer d)) () 1 : CellTallies nD τ sig Unit)) = ∑ d : Dev nD, tallyAt (barCell d) () 1 := hb 0
  rw [h₁, h₂, h₃, h₄, add_assoc, add_assoc, ← Finset.sum_add_distrib, ← Finset.sum_add_distrib]
  refine congrArg _ (Finset.sum_congr rfl fun d _ => ?_)
  rw [tallyAt_add, tallyAt_add]

theorem Tt_at (d : Dev nD) (g : GSem nD τ sig) (h : Tt d g ≠ 0) : g.1 = (d.tc : Thread nD τ) := by
  by_contra hg
  refine h ?_
  unfold Tt
  rw [Pi.add_apply, Finset.sum_apply, Finset.sum_eq_zero fun t _ => tallyAt_ne_cell (fun e => hg (congrArg Prod.fst e)) _ _,
    tallyAt_ne_cell (fun e => hg (congrArg Prod.fst e)), add_zero]

omit [FloatOps F] in
theorem cred_fam {I : Type} [DecidableEq I] (S : Finset I) (f : I → CellTallies nD τ sig Unit) :
    (cred (∑ t ∈ S, f t) : sProp 𝕄) ⊢ bigSep S fun t => cred (f t) := by
  induction S using Finset.induction_on with
  | empty => rw [Finset.sum_empty, cred_zero]; exact .rfl
  | insert a S ha ih =>
    rw [Finset.sum_insert ha, bigSep_insert ha]
    exact (cred_add _ _).1.trans (sep_mono_right ih)

omit [FloatOps F] in
theorem creds (c : Dev nD) :
    (Pipeline.launchCred O₀ c : sProp 𝕄) ⊢ iprop((bigSep Finset.univ fun t : Tr => cred (tallyAt (rcvCell c t) () (crd t))) ∗ cred (tallyAt (barCell c) () 3)) := by
  rw [Pipeline.launchCred_of_sum O₀ Tt sum_owed Tt_at c]
  unfold Tt
  exact (cred_add _ _).1.trans (sep_mono_left (cred_fam _ _))

/-! ## The side conditions -/

/-- What a device's region starts with. -/
def start (c : Dev nD) : sProp 𝕄 := iprop((∃ K, ctx m K) ∗ lin m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  have e : (Pipeline.unscopedRest cfg0.spec c (fun b => m ((c : Thread nD τ).loc b)) : sProp 𝕄)
      = iprop(((c : Thread nD τ).loc main_arg0 ↦{fullShare} m ((c : Thread nD τ).loc main_arg0)) ∗ ((c : Thread nD τ).loc main_arg1 ↦{fullShare} m ((c : Thread nD τ).loc main_arg1))) :=
    unscopedRest0_eq c _
  have hs : iprop((bigSep Finset.univ fun t : Tr => dutyTok ER (sndCell c t) 0 0) ∗ (bigSep Finset.univ fun t : Tr => dutyTok ER (rcvCell (peer t c) t) 0 0)
      ∗ (bigSep Finset.univ fun t : Tr => atPos ER (sndCell c t) 0 ∅ 0)) ⊢ (bigSep Finset.univ fun t => sndR c t .ready : sProp 𝕄) := by
    rw [← bigSep_sep', ← bigSep_sep']; exact .rfl
  have hr : iprop((bigSep Finset.univ fun t : Tr => atPos ER (rcvCell c t) 0 ∅ 0) ∗ (bigSep Finset.univ fun t : Tr => cred (tallyAt (rcvCell c t) () (crd t))))
      ⊢ (bigSep Finset.univ fun t => rcvR m c t false : sProp 𝕄) := by
    rw [← bigSep_sep']; exact .rfl
  rw [e]
  unfold G' stay
  rw [payToks_eq, fam_cl]
  iintro ⟨⟨Ha0, Ha1⟩, #Hlev, Hcr, -, ⟨%K, #HR⟩, ⟨Hat0, HatS, HatV⟩, ⟨Ht, HtS, HtV⟩, HL⟩
  ihave Hc := (creds (F := F) c) $$ Hcr
  icases Hc with ⟨HcV, HcB⟩
  imodintro
  unfold start
  isplitl
  · isplitr
    · iexists K
      unfold ctx recs
      icases HR with ⟨#H1, #H2⟩
      isplitr; · iexact H1
      isplitr; · iexact H2
      iexact Hlev
    unfold lin
    rw [args_eq]
    isplitl [HL]; · iexact HL
    isplitl [Ha0 Ha1]
    · isplitl [Ha1] <;> iassumption
    isplitl [Hat0 HcB Ht]
    · unfold barLin
      isplitl [Hat0]; · iexact Hat0
      isplitl [HcB]; · iexact HcB
      iexact Ht
    isplitl [HatS HtS HtV]
    · iapply hs
      isplitl [HtS]; · iexact HtS
      isplitl [HtV] <;> iassumption
    iapply hr
    isplitl [HatV] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  have e : (Pipeline.scopedRest cfg0.spec c : sProp 𝕄) = rest c := rest_eq c
  rw [show (dats m 0 c).Φ 0 = Φ₀ m c from rfl, e]
  unfold Φ₀ start
  iintro ⟨⟨HK, HL⟩, -, Hr⟩
  isplitl [HK]; · iexact HK
  isplitl [HL] <;> iassumption

theorem phi1_exit (c : Dev nD) :
    (dats m 0 c).Φ (Fin.last cfg0.N) ⊢ iprop((args m c ∗ unscopedSems0 c) ∗ Pipeline.ownSems0 osem c ∗ Pipeline.scopedRest cfg0.spec c) := by
  have e : (Pipeline.scopedRest cfg0.spec c : sProp 𝕄) = rest c := rest_eq c
  rw [show (dats m 0 c).Φ (Fin.last cfg0.N) = Φ₁ m c from rfl, e, ownSems0_eq, unscopedSems0_eq]
  unfold Φ₁
  iintro ⟨H₁, H₂, H₃, H₄, H₅, H₆⟩
  isplitl [H₂ H₃]
  · isplitl [H₂] <;> iassumption
  isplitl [H₁ H₄ H₅]
  · isplitl [H₁]; · iexact H₁
    isplitl [H₄] <;> iassumption
  iexact H₆

theorem lvS_stage (w : Fin cfg0.W) (s : Fin (cfg0.win w).nbuf) : lvS (.dma ((cfg0.win w).sem s)) = 0 := by
  have h : ∀ k : Cl, csem k ≠ .dma ((cfg0.win w).sem s) := by
    fin_cases w; fin_cases s; decide +kernel
  unfold lvS tag Function.partialInv
  rw [dif_neg (fun ⟨k, e⟩ => h k e)]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (lvS_stage w s)
    · have h : (levAts L lv : sProp 𝕄) ⊢ MayWait (c : Thread nD τ) (.dma ((cfg0.win w).sem s)) () 0 := by
        rw [MayWait_zero]; iintro -; iempintro
      exact h

theorem share_eq (c : Dev nD) (w : Fin cfg0.W) : (dats m 0 c).share w = fullShare := by unfold Dat.share; split <;> rfl

/-! ## The run -/

/-- What the run leaves of a device's result array. -/
def finalA (c : Dev nD) (w : Fin cfg0.W) : Buf (Elt F) ((cfg0.win w).arr.view.loc (c : Thread nD τ)) := (dats m 0 c).arrAt w cfg0.N

/-- What the run leaves: the result arrays at what was computed, the arguments as they were, every semaphore at zero. -/
def QC : PUnit × MemSt nD τ sig (Elt F) → Prop := fun r =>
  (∀ c : Dev nD, (∀ w : Fin cfg0.W, r.2.mem ((cfg0.win w).arr.view.loc (c : Thread nD τ)) = finalA m c w)
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

theorem read_args (c : Dev nD) (s' : Phys nD τ sig (Elt F)) : iprop(args m c ∗ SI s')
    ⊢ iprop(⌜s'.mem.mem ((c : Thread nD τ).loc main_arg0) = m ((c : Thread nD τ).loc main_arg0) ∧ s'.mem.mem ((c : Thread nD τ).loc main_arg1) = m ((c : Thread nD τ).loc main_arg1)⌝ ∗ SI s') := by
  have e : (args m c : sProp 𝕄) = bigSep ({main_arg1, main_arg0} : Finset (Ref sig .tc)) fun b => ((c : Thread nD τ).loc b ↦{fullShare} m ((c : Thread nD τ).loc b)) := by
    rw [args_eq, bigSep_insert (by decide), bigSep_singleton]; rfl
  rw [e]
  iintro H
  ihave H := (pointsTo_read_all ({main_arg1, main_arg0} : Finset (Ref sig .tc)) (fun b => (c : Thread nD τ).loc b) (fun b => m ((c : Thread nD τ).loc b)) s') $$ H
  icases H with ⟨%h, H⟩
  isplitr
  · ipureintro; exact ⟨h main_arg0 (by decide), h main_arg1 (by decide)⟩
  iexact H

set_option maxRecDepth 100000 in
/-- For any float values, from any memory with zero counters, every weakly fair execution of the sixteen devices ends,
    and ends as `QC` says. -/
theorem run_main [∀ e, Nonempty (Elt F e)] : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_cells m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      iintro ⟨⟨Ha, Hu⟩, -, HSI⟩
      ihave H := (read_args m c s') $$ [Ha HSI]
      · isplitl [Ha] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => ⟨fun w => (h c).1 w, (h c).2.2.1.1, (h c).2.2.1.2⟩, sem_eq_zero hs fun c => (h c).2.2.2⟩)

end Cert.AllReduce
-- ==== Proof.Frames.lean ====
/-
The frames: both kernel programs and the reference run to their end, their arguments unchanged and every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

set_option maxRecDepth 100000
set_option maxHeartbeats 4000000

/-- The two printings of the kernel have the same body table. -/
theorem tables₀ : (Cert.Kernel.defs₀ (F := Bits)) = Cert.KernelIdeal.defs₀ := by
  unfold Cert.Kernel.defs₀ Cert.KernelIdeal.defs₀
  refine congrArg Defs.onTc (funext fun l => ?_)
  match l with
  | 0 => rfl

/-- Hence the same table with the pipeline around the body. -/
theorem tables : (Cert.Kernel.defs (F := Bits)) = Cert.KernelIdeal.defs := by
  unfold Cert.Kernel.defs Cert.KernelIdeal.defs
  exact congrArg (Pipeline.defs Cert.KernelIdeal.pcfgs) tables₀

/-- The run of the one printing is the run of the other. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (Cert.AllReduce.QC (F := Bits) m) := by
  rw [tables]
  exact Cert.AllReduce.run_main (F := Bits) m ρ

/-- The kernel at the machine's floats. -/
theorem frame_kernel : Cert.quiescent_Kernel := fun m ρ _ =>
  (θ_run (Cert.Kernel.defs (F := Bits)) _ _).mono (fun _ h => ⟨fun c => (h.1 c).2, h.2⟩) (run_kernel m ρ)

/-- The kernel at the ideal floats. -/
theorem frame_ideal : Cert.quiescent_KernelIdeal := fun m ρ _ =>
  (θ_run Cert.KernelIdeal.defs _ _).mono (fun _ h => ⟨fun c => (h.1 c).2, h.2⟩) (Cert.AllReduce.run_main (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.lean ====
/-
The value: at the ideal floats every device's result is the whole product.

The pieces a device writes are read at an index, back through the copies that brought them, to the product's
coordinates; since the pieces cover the result, the result is the product.
-/
module

public import proofs.«01_k».proof.Proof.Frames
public import Idealize.ShloMosaic.Lib.Pointwise
public import Idealize.ShloMosaic.Lib.ValueIdx
public import Idealize.ShloMosaic.Lib.Layout

@[expose] public section

noncomputable section

namespace Cert.AllReduce

open Cert.KernelIdeal Cert.KernelIdeal.Gen

open Idealize.ShloMosaic
open Idealize.ShloMosaic.TcCoe
open Idealize.SL.Sem

/-! ## Operations at an index -/

/-- The product of two blocks at an index. -/
theorem pay8_apply (v : FVec Ideal S256x8192 .bf16) (w : FVec Ideal S512x8192 .bf16) (i : S256x512.Idx) :
    (k0_pay8 (F := Ideal) v w i : EReal) = ∑ k : Fin 8192, (v (ix2 (i 0) k) : EReal) * w (ix2 (i 1) k) := by
  unfold k0_pay8
  pointwise

/-- Rounding changes nothing. -/
theorem pay9_apply (v : FVec Ideal S256x512 .f32) (i : S256x512.Idx) : (k0_pay9 (F := Ideal) v i : EReal) = v i := by
  unfold k0_pay9
  pointwise

/-- The two halves of a sub-block added. -/
theorem pay14_apply (v : FVec Ideal S256x512 .f32) (w : FVec Ideal S256x512 .bf16) (i : S256x512.Idx) :
    (k0_pay14 (F := Ideal) v w i : EReal) = (v i : EReal) + w i := by
  unfold k0_pay14
  pointwise

/-- The two halves of the travelling part added. -/
theorem pay15_apply (v : FVec Ideal S192x512 .f32) (w : FVec Ideal S192x512 .bf16) (i : S192x512.Idx) :
    (shapeCast (SR 192) (k0_pay15 (F := Ideal) v w) (sq3 192).numel_eq i : EReal) = (v i : EReal) + w i := by
  unfold k0_pay15
  pointwise

/-- The reference's result at an index. -/
theorem ref_apply (A B : FVec Ideal Cert.ReferenceIdeal.S2048x16384 .f32) (i : Cert.ReferenceIdeal.S2048x2048.Idx) (hb) (ht) :
    (truncf (F := Ideal) .bf16 (Host.dotGeneral Cert.ReferenceIdeal.dot_S2048x16384_S16384x2048_S2048x2048_1_0_0_1_n_n none A
      (transpose Cert.ReferenceIdeal.S16384x2048 [1, 0] B ht)) hb i : EReal)
    = ∑ k : Fin 16384, (A (ix2 (i 0) k) : EReal) * B (ix2 (i 1) k) := by
  pointwise

/-! ## Where the devices' blocks lie -/

/-- The first row and the first column of the device's block of the result. -/
abbrev rowB (c : Dev nD) : ℕ := 1024 * (c.val / 4 % 2)
abbrev colB (c : Dev nD) : ℕ := 512 * (c.val % 4)

/-- The device whose part hop `h` of direction `d` brings. -/
def ownr (d : Bool) : ℕ → Dev nD → Dev nD
  | 0, c => bwd d c
  | h + 1, c => ownr d h (bwd d c)

/-- The x peer has the same block, and the other half. -/
theorem xpeer_row : ∀ c : Dev nD, rowB (xpeer c) = rowB c := by decide +kernel
theorem xpeer_col : ∀ c : Dev nD, colB (xpeer c) = colB c := by decide +kernel
theorem xpeer_x : ∀ c : Dev nD, (xpeer c).val / 8 = 1 - c.val / 8 := by decide +kernel

/-- Where the chunks of the arguments start. -/
theorem ckW_off : ∀ (c : Dev nD) (j : Fin 4) (a : Fin 2),
    k0_off1 c 1#32 4#32 512#32 (BitVec.ofNat 32 (128 * j.val)) a = (![colB c + 128 * j.val, 0] : Fin 2 → ℕ) a := by decide +kernel
theorem ckD_off : ∀ (c : Dev nD) (j : Fin 8) (a : Fin 2),
    k0_off1 c 4#32 2#32 1024#32 (BitVec.ofNat 32 (128 * j.val)) a = (![rowB c + 128 * j.val, 0] : Fin 2 → ℕ) a := by decide +kernel

/-- Where the pieces of the result lie. -/
theorem off_fin : ∀ (c : Dev nD) (s : Fin 4) (a : Fin 2),
    pOff (.fin s) c a = (![rowB c + 256 * s.val, colB c] : Fin 2 → ℕ) a := by decide +kernel
theorem off_put : ∀ (c : Dev nD) (d : Bool) (s : Fin 4) (h : Fin 3) (a : Fin 2), pOff (.put d s h) c a =
    (![rowB (ownr d h.val c) + 256 * s.val + 64 * ((ownr d h.val c).val / 8), colB (ownr d h.val c)] : Fin 2 → ℕ) a := by decide +kernel
theorem off_putE : ∀ (c : Dev nD) (d : Bool) (s : Fin 4) (a : Fin 2), pOff (.putE d s) c a =
    (![rowB (ownr d 3 c) + 256 * s.val + 64 * ((ownr d 3 c).val / 8) + eOff d (bwd d c), colB (ownr d 3 c)] : Fin 2 → ℕ) a := by
  decide +kernel
theorem off_putM : ∀ (c : Dev nD) (d : Bool) (s : Fin 4) (h : Fin 3) (a : Fin 2), pOff (.putM d s h) c a =
    (![rowB (ownr d h.val (xpeer c)) + 256 * s.val + 64 * ((ownr d h.val (xpeer c)).val / 8) + mOff (xpeer c),
      colB (ownr d h.val (xpeer c))] : Fin 2 → ℕ) a := by decide +kernel
theorem off_putZ : ∀ (c : Dev nD) (s : Fin 4) (a : Fin 2), pOff (.putZ s) c a =
    (![rowB (ownr false 3 (xpeer c)) + 256 * s.val + 64 * ((ownr false 3 (xpeer c)).val / 8) + (eOff false (prv (xpeer c)) + zOff (xpeer c)),
      colB (ownr false 3 (xpeer c))] : Fin 2 → ℕ) a := by decide +kernel

/-! ## What travels, as parts of one array -/

/-- An array by its coordinates, 0 outside. -/
def AT (A : FVec Ideal ⟨2, ![2048, 16384]⟩ .f32) (r k : ℕ) : EReal :=
  if h : r < 2048 ∧ k < 16384 then A (ix2 ⟨r, h.1⟩ ⟨k, h.2⟩) else 0

/-- At coordinates within, the array. -/
theorem AT_eq (A : FVec Ideal ⟨2, ![2048, 16384]⟩ .f32) (i : (⟨2, ![2048, 16384]⟩ : Shape).Idx) (r k : ℕ) (hr : r = (i 0).val)
    (hk : k = (i 1).val) : AT A r k = A i := by
  subst hr hk
  unfold AT
  rw [dif_pos ⟨(i 0).isLt, (i 1).isLt⟩]
  exact congrArg A (funext fun a => by fin_cases a <;> rfl)

/-- A device's half: all the rows, the columns of its place along x. -/
theorem meshBlock_val : ∀ c : Dev nD, ((Layout.meshBlock [2, 2, 4] (![[], [0]] : Fin 2 → List ℕ) c (by decide)) (0 : Fin 2)).val = 0
    ∧ ((Layout.meshBlock [2, 2, 4] (![[], [0]] : Fin 2 → List ℕ) c (by decide)) (1 : Fin 2)).val = c.val / 8 := by decide +kernel

/-- A device's half of an array. -/
theorem block_at (A : FVec Ideal ⟨2, ![2048, 16384]⟩ .f32) (c : Dev nD) (i : (⟨2, ![2048, 8192]⟩ : Shape).Idx) :
    Layout.blockN ⟨2, ![2048, 8192]⟩ ⟨2, ![2048, 16384]⟩ (Layout.meshBlock [2, 2, 4] ![[], [0]] c) A (by decide) i
    = AT A (i 0).val (8192 * (c.val / 8) + (i 1).val) := by
  rw [Layout.blockN_apply]
  refine (AT_eq A _ _ _ ?_ ?_).symm
  · rw [Layout.TilesN.idx_val]
    change _ = ((Layout.meshBlock [2, 2, 4] (![[], [0]] : Fin 2 → List ℕ) c (by decide)) (0 : Fin 2)).val * 2048 + (i 0).val
    rw [(meshBlock_val c).1]; omega
  · rw [Layout.TilesN.idx_val]
    change _ = ((Layout.meshBlock [2, 2, 4] (![[], [0]] : Fin 2 → List ℕ) c (by decide)) (1 : Fin 2)).val * 8192 + (i 1).val
    rw [(meshBlock_val c).2]; omega

/-- Half `x` of the product at row `r`, column `q`, and the whole. -/
def half (A B : FVec Ideal ⟨2, ![2048, 16384]⟩ .f32) (x r q : ℕ) : EReal :=
  ∑ k : Fin 8192, AT A r (8192 * x + k.val) * AT B q (8192 * x + k.val)
def tot (A B : FVec Ideal ⟨2, ![2048, 16384]⟩ .f32) (r q : ℕ) : EReal :=
  ∑ k : Fin 16384, AT A r k.val * AT B q k.val

/-- The whole is the sum of the halves. -/
theorem tot_eq (A B : FVec Ideal ⟨2, ![2048, 16384]⟩ .f32) (r q : ℕ) : tot A B r q = half A B 0 r q + half A B 1 r q := by
  unfold tot half
  rw [show (16384 : ℕ) = 8192 + 8192 from rfl, Fin.sum_univ_add]
  refine congrArg₂ (· + ·) (Finset.sum_congr rfl fun k _ => ?_) (Finset.sum_congr rfl fun k _ => ?_)
  · rw [Fin.val_castAdd, Nat.mul_zero, Nat.zero_add]
  · rw [Fin.val_natAdd, Nat.mul_one]

/-- A device's half and its x peer's make the whole. -/
theorem half_add (A B : FVec Ideal ⟨2, ![2048, 16384]⟩ .f32) (c : Dev nD) (r q : ℕ) :
    half A B (c.val / 8) r q + half A B ((xpeer c).val / 8) r q = tot A B r q := by
  rw [xpeer_x, tot_eq]
  rcases Nat.le_one_iff_eq_zero_or_eq_one.mp (x_le c) with h | h <;> rw [h]
  exact add_comm _ _

/-- Where a rectangle's indices lie. -/
theorem unit_emb {s : Shape} (off size : Fin s.rank → ℕ) (h : ∀ a, off a + size a ≤ s.size a) (x : (⟨s.rank, size⟩ : Shape).Idx) (a : Fin s.rank) :
    (((Rect.unit (s := s) off size h).emb x) a).val = off a + (x a).val := by simp

section Travel

variable (m : (ℓ : Loc nD τ sig) → Buf (Elt Ideal) ℓ) (A B : FVec Ideal ⟨2, ![2048, 16384]⟩ .f32)
  (hA : ∀ c : Dev nD, m ((c : Thread nD τ).loc main_arg0)
    = Layout.blockN ⟨2, ![2048, 8192]⟩ ⟨2, ![2048, 16384]⟩ (Layout.meshBlock [2, 2, 4] ![[], [0]] c) A (by decide))
  (hB : ∀ c : Dev nD, m ((c : Thread nD τ).loc main_arg1)
    = Layout.blockN ⟨2, ![2048, 8192]⟩ ⟨2, ![2048, 16384]⟩ (Layout.meshBlock [2, 2, 4] ![[], [0]] c) B (by decide))

/-- A chunk at an index. -/
theorem CK_at (q : Ck) (c : Dev nD) (i : S128x8192.Idx) :
    (CK m q c i : EReal) = (ckSrc q c).view.read (Elt Ideal) (m ((ckSrc q c).view.loc (c : Thread nD τ))) i := by
  unfold CK
  pointwise

include hB in
/-- A chunk of the weights, and one of the activations, in the whole array. -/
theorem CKW_at (j : Fin 4) (c : Dev nD) (i : S128x8192.Idx) :
    (CK m (.W j) c i : EReal) = AT B (colB c + 128 * j.val + (i 0).val) (8192 * (c.val / 8) + (i 1).val) := by
  rw [CK_at]
  change m ((c : Thread nD τ).loc main_arg1) ((Rect.unit (s := S2048x8192) (k0_off1 c 1#32 4#32 512#32 (BitVec.ofNat 32 (128 * j.val)))
    S128x8192.size (ckW_inb c j)).emb i) = _
  rw [hB c, block_at]
  refine congrArg₂ (AT B) ?_ (congrArg (8192 * (c.val / 8) + ·) ?_)
  · rw [unit_emb, ckW_off]; rfl
  · rw [unit_emb, ckW_off]; exact Nat.zero_add _

include hA in
theorem CKD_at (j : Fin 8) (c : Dev nD) (i : S128x8192.Idx) :
    (CK m (.D j) c i : EReal) = AT A (rowB c + 128 * j.val + (i 0).val) (8192 * (c.val / 8) + (i 1).val) := by
  rw [CK_at]
  change m ((c : Thread nD τ).loc main_arg0) ((Rect.unit (s := S2048x8192) (k0_off1 c 4#32 2#32 1024#32 (BitVec.ofNat 32 (128 * j.val)))
    S128x8192.size (ckD_inb c j)).emb i) = _
  rw [hA c, block_at]
  refine congrArg₂ (AT A) ?_ (congrArg (8192 * (c.val / 8) + ·) ?_)
  · rw [unit_emb, ckD_off]; rfl
  · rw [unit_emb, ckD_off]; exact Nat.zero_add _

include hB in
/-- The staged weights at an index. -/
theorem WB_at (c : Dev nD) (i : S512x8192.Idx) :
    (WB m c i : EReal) = AT B (colB c + (i 0).val) (8192 * (c.val / 8) + (i 1).val) := by
  unfold WB
  rw [CKW_at m B hB]
  refine congrArg₂ (AT B) ?_ rfl
  change colB c + 128 * ((i 0).val / 128) + (i 0).val % 128 = _
  omega

include hA in
/-- The staged activations at an index. -/
theorem DB_at (c : Dev nD) (i : S1024x8192.Idx) :
    (DB m c i : EReal) = AT A (rowB c + (i 0).val) (8192 * (c.val / 8) + (i 1).val) := by
  unfold DB
  rw [CKD_at m A hA]
  refine congrArg₂ (AT A) ?_ rfl
  change rowB c + 128 * ((i 0).val / 128) + (i 0).val % 128 = _
  omega

include hA hB in
/-- The device's product for sub-block `s` at an index: its half. -/
theorem ACC_at (c : Dev nD) (s : Fin 4) (i : S256x512.Idx) :
    (ACC m c s i : EReal) = half A B (c.val / 8) (rowB c + 256 * s.val + (i 0).val) (colB c + (i 1).val) := by
  unfold ACC half
  rw [pay8_apply]
  refine Finset.sum_congr rfl fun k _ => ?_
  refine congrArg₂ (· * ·) ?_ (WB_at m B hB c _)
  change (DB m c ((gRect s).emb (ix2 (i 0) k)) : EReal) = _
  rw [DB_at m A hA]
  refine congrArg₂ (AT A) ?_ ?_
  · rw [unit_emb]; exact (Nat.add_assoc _ _ _).symm
  · rw [unit_emb]; exact congrArg (8192 * (c.val / 8) + ·) (Nat.zero_add _)

/-- Rows of a value at an index. -/
theorem rsub_at {N n o : ℕ} (h : o + n ≤ N) (v : FVec Ideal (SR N) .bf16) (G : ℕ → ℕ → EReal) (r q : ℕ)
    (hv : ∀ i, (v i : EReal) = G (r + (i 0).val) (q + (i 1).val)) (i : (SR n).Idx) :
    (rsub h v i : EReal) = G (r + o + (i 0).val) (q + (i 1).val) := by
  unfold rsub
  rw [hv]
  refine congrArg₂ G ?_ ?_
  · rw [unit_emb]; exact (Nat.add_assoc _ _ _).symm
  · rw [unit_emb]; exact congrArg (q + ·) (Nat.zero_add _)

/-- Where the part a device sends around the ring starts. -/
abbrev ownRow (s : Fin 4) (o : Dev nD) : ℕ := rowB o + 256 * s.val + 64 * (o.val / 8)

include hA hB in
/-- That part at an index: the whole product. -/
theorem OWN_at (c : Dev nD) (s : Fin 4) (i : (SR 192).Idx) :
    (OWN m c s i : EReal) = tot A B (ownRow s c + (i 0).val) (colB c + (i 1).val) := by
  unfold OWN
  rw [pay15_apply]
  rw [← half_add A B c]
  refine congrArg₂ (· + ·) ?_ ?_
  · change (ACC m c s ((Rect.unit (s := SR 256) ![64 * (c.val / 8), 0] (SR 192).size (inb2 (x_le64 c))).emb i) : EReal) = _
    rw [ACC_at m A B hA hB]
    refine congrArg₂ (half A B (c.val / 8)) ?_ ?_
    · rw [unit_emb]; exact (Nat.add_assoc _ _ _).symm
    · rw [unit_emb]; exact congrArg (colB c + ·) (Nat.zero_add _)
  · refine (rsub_at (x_le64 c) _ (half A B ((xpeer c).val / 8)) (rowB c + 256 * s.val) (colB c) (fun j => ?_) i)
    rw [pay9_apply, ACC_at m A B hA hB, xpeer_row, xpeer_col]

include hA hB in
/-- What a hop brings at an index. -/
theorem RG_at (d : Bool) (s : Fin 4) : ∀ (h : ℕ) (c : Dev nD) (i : (SR 192).Idx),
    (RG m d s h c i : EReal) = tot A B (ownRow s (ownr d h c) + (i 0).val) (colB (ownr d h c) + (i 1).val)
  | 0, c, i => OWN_at m A B hA hB (bwd d c) s i
  | h + 1, c, i => RG_at d s h (bwd d c) i

include hA hB in
/-- A piece of the result at an index: the whole product where the piece lies. -/
theorem PV_at (c : Dev nD) : ∀ (p : Pc) (i : (SR (pRows p)).Idx),
    (PV m c p i : EReal) = tot A B (pOff p c 0 + (i 0).val) (pOff p c 1 + (i 1).val)
  | .fin s, i => by
    rw [off_fin, off_fin]
    change (k0_pay14 (ACC m c s) (k0_pay9 (ACC m (xpeer c) s)) i : EReal) = _
    rw [pay14_apply, pay9_apply, ACC_at m A B hA hB, ACC_at m A B hA hB, xpeer_row, xpeer_col]
    exact half_add A B c _ _
  | .put d s h, i => by
    rw [off_put, off_put]
    exact RG_at m A B hA hB d s h.val c i
  | .putE false s, i => by
    rw [off_putE, off_putE]
    exact rsub_at (eOff_le false _) _ (tot A B) _ _ (RG_at m A B hA hB false s 2 _) i
  | .putE true s, i => by
    rw [off_putE, off_putE]
    exact rsub_at (eOff_le true _) _ (tot A B) _ _ (RG_at m A B hA hB true s 2 _) i
  | .putM d s h, i => by
    rw [off_putM, off_putM]
    exact rsub_at (mOff_le _) _ (tot A B) _ _ (RG_at m A B hA hB d s h.val _) i
  | .putZ s, i => by
    rw [off_putZ, off_putZ]
    have e := rsub_at (N := 128) (n := 64) (o := zOff (xpeer c)) (by have := x_le (xpeer c); rw [zOff_eq]; omega) _ (tot A B) _ _
      (rsub_at (eOff_le false (prv (xpeer c))) _ (tot A B) _ _ (RG_at m A B hA hB false s 2 (prv (xpeer c)))) i
    refine Eq.trans e ?_
    exact congrArg₂ (tot A B) (congrArg (· + (i 0).val) (Nat.add_assoc _ _ _)) rfl

/-- The whole product as an array. -/
def prod : FVec Ideal S2048x2048 .bf16 := fun i => tot A B (i 0).val (i 1).val

include hA hB in
/-- Writing the pieces into the product leaves it as it is. -/
theorem foldOut_prod (c : Dev nD) : ∀ l : List Pc, foldOut m c l (prod A B) = prod A B
  | [] => rfl
  | p :: l => by
    unfold foldOut
    rw [foldOut_prod c l]
    funext i
    by_cases hi : i ∈ (bOut.access (pRect p c) : View sig .tc _ _ _).setOn Finset.univ
    · obtain ⟨x, hx, rfl⟩ := Finset.mem_map.mp hi
      rw [View.write_emb_of_mem _ _ hx]
      change (PV m c p x : EReal) = tot A B ((pRect p c).emb x 0).val ((pRect p c).emb x 1).val
      rw [PV_at m A B hA hB, unit_emb, unit_emb]
    · rw [View.write_of_not_mem _ _ _ hi]

include hA hB in
/-- The body leaves the whole product. -/
theorem outAt_prod (c : Dev nD) : outAt m c = prod A B :=
  (foldOut_eq m c (prod A B)).symm.trans (foldOut_prod m A B hA hB c _)

/-- The result array ends holding what the body left. -/
theorem finalA_out (c : Dev nD) : finalA m c (0 : Fin 1) = outAt m c := by
  have ho : (win0_0.blk (0 : Fin 1)).view.read (Elt Ideal) (finalA m c (0 : Fin 1)) = outAt m c := by
    unfold finalA
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  rw [Memref.read_access_unit_zero (Elt Ideal) main_v1 hz (fun a => by fin_cases a <;> decide) _] at ho
  exact ho

end Travel

/-- Every device ends holding the reference's product, and both programs keep their arguments. -/
theorem algebraic : Cert.algebraic_KernelIdeal_ReferenceIdeal := by
  intro m ρ m' ρ' _ hagree
  refine ⟨prod (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run (Cert.KernelIdeal.defs (F := Ideal)) _ _).mono
      (fun _ h c => ⟨(((h.1 c).1 (0 : Fin 1)).trans (finalA_out m c)).trans
        (outAt_prod m _ _ (fun c => (hagree c).1) (fun c => (hagree c).2) c), (h.1 c).2⟩)
      (run_main (F := Ideal) m ρ)
  · refine (θ_run (Cert.ReferenceIdeal.defs (F := Ideal)) _ _).mono (fun _ h => ⟨(h 0).1.trans ?_, (h 0).2⟩)
      (Cert.ReferenceIdeal.Value.run (F := Ideal) m' ρ')
    funext i
    refine (ref_apply _ _ i _ _).trans ?_
    unfold prod tot
    exact Finset.sum_congr rfl fun k _ => congrArg₂ (· * ·) (AT_eq _ _ _ _ rfl rfl).symm (AT_eq _ _ _ _ rfl rfl).symm

end Cert.AllReduce

end
-- ==== Proof.lean ====
module

public import proofs.«01_k».proof.Defs
public import proofs.«01_k».proof.Proof.Value

@[expose] public section

noncomputable section

namespace Cert.Proof

/-- All the claims. -/
theorem claim : Cert.Claim :=
  ⟨Cert.Kernel.Gen.facts, Cert.KernelIdeal.Gen.facts, Cert.ReferenceIdeal.Gen.facts, frame_kernel, frame_ideal, frame_reference, trivial, Cert.AllReduce.algebraic⟩

end Cert.Proof

end
